-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DistinctIdeal (m : (ℓ : Loc Cert.DistinctIdeal.nD Cert.DistinctIdeal.τ Cert.DistinctIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_DistinctIdeal [hDistinctIdeal : Cert.DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 32768]⟩ (Layout.meshBlock [2, 4, 4] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v4) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def algebraic_KernelIdeal_DistinctIdeal [hKernelIdeal : Cert.KernelIdeal.Facts] [hDistinctIdeal : Cert.DistinctIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DistinctIdeal.nD Cert.DistinctIdeal.τ Cert.DistinctIdeal.sig) → Buf (Elt Ideal) ℓ) (g' : Dev Cert.DistinctIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 32768]⟩ (Layout.meshBlock [2, 4, 4] ![[], [1]] c) (m' (((0 : Dev Cert.DistinctIdeal.nD).tc : Thread Cert.DistinctIdeal.nD Cert.DistinctIdeal.τ).loc Cert.DistinctIdeal.main_arg0))) →
    ∃ (v0 : Buf (Elt Ideal) (((0 : Dev Cert.DistinctIdeal.nD).tc : Thread Cert.DistinctIdeal.nD Cert.DistinctIdeal.τ).loc Cert.DistinctIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.DistinctIdeal.defs (F := Ideal)) (onTc (τ := Cert.DistinctIdeal.τ) (Cert.DistinctIdeal.main (F := Ideal))) ⟨m', fun _ => 0, g'⟩ (fun r =>
          r.2.mem (((0 : Dev Cert.DistinctIdeal.nD).tc : Thread Cert.DistinctIdeal.nD Cert.DistinctIdeal.τ).loc Cert.DistinctIdeal.main_v12) = v0
          ∧ r.2.mem (((0 : Dev Cert.DistinctIdeal.nD).tc : Thread Cert.DistinctIdeal.nD Cert.DistinctIdeal.τ).loc Cert.DistinctIdeal.main_arg0) = m' (((0 : Dev Cert.DistinctIdeal.nD).tc : Thread Cert.DistinctIdeal.nD Cert.DistinctIdeal.τ).loc Cert.DistinctIdeal.main_arg0))

def Claim : Prop :=
  ∃ (hKernel : Cert.Kernel.Facts) (hKernelIdeal : Cert.KernelIdeal.Facts) (hReferenceIdeal : Cert.ReferenceIdeal.Facts) (hDistinctIdeal : Cert.DistinctIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ quiescent_DistinctIdeal (hDistinctIdeal := hDistinctIdeal)
    ∧ preserves_Kernel_KernelIdeal
    ∧ algebraic_KernelIdeal_ReferenceIdeal_on_untied (hKernelIdeal := hKernelIdeal) (hReferenceIdeal := hReferenceIdeal) (hOn_untied := hOn_untied)
    ∧ algebraic_KernelIdeal_DistinctIdeal (hKernelIdeal := hKernelIdeal) (hDistinctIdeal := hDistinctIdeal)
-- ==== On_untied.lean ====
abbrev S1024x32768 : Shape := ⟨2, ![1024, 32768]⟩
abbrev S1024x32 : Shape := ⟨2, ![1024, 32]⟩
abbrev S_ : Shape := ⟨0, ![]⟩
abbrev S1024x1 : Shape := ⟨2, ![1024, 1]⟩
abbrev S1024x31 : Shape := ⟨2, ![1024, 31]⟩
abbrev S1024x32x32 : Shape := ⟨3, ![1024, 32, 32]⟩
abbrev S1024x1x32 : Shape := ⟨3, ![1024, 1, 32]⟩

class Facts : Prop where
  bitsLt_bf16_f32 : FTy.bits .bf16 < FTy.bits .f32
  slices_S1024x32768_S1024x32_0_0 : S1024x32768.Slices ![0, 0] S1024x32
  bcast_S_S1024x1 : S_.BroadcastsInDim S1024x1 (![] : Fin 0 → Fin S1024x1.rank)
  slices_S1024x32_S1024x31_0_0 : S1024x32.Slices ![0, 0] S1024x31
  concatenates_S1024x1_S1024x31_S1024x32_d1 : Shape.Concatenates [S1024x1, S1024x31] S1024x32 1
  bcast_S1024x32_S1024x1x32_0_2 : S1024x32.BroadcastsInDim S1024x1x32 (![0, 2] : Fin 2 → Fin S1024x1x32.rank)
  bcast_S1024x1x32_S1024x32x32_0_1_2 : S1024x1x32.BroadcastsInDim S1024x32x32 (![0, 1, 2] : Fin 3 → Fin S1024x32x32.rank)
  reducesTo_S1024x32x32_S1024x32_d2 : S1024x32x32.ReducesTo [2] S1024x32
  h_S_ : 0 < S_.numel

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S1024x32768 .f32) : FVec F S1024x32768 .f32 :=
  let v0 : FVec F S1024x32768 .f32 := (fun x => Host.sort S1024x32768 1 comparator_f32_d1 x) arg0
  v0

def fn {F : FTy → Type} [FloatOps F] (main_arg0 : FVec F S1024x32768 .bf16) : IVec S1024x32 1 :=
  let main_v0 : FVec F S1024x32768 .f32 := (extf .f32 · bitsLt_bf16_f32) main_arg0
  let main_v1 : FVec F S1024x32768 .f32 := Host.negf main_v0
  let main_v2 : FVec F S1024x32768 .f32 := fn_sort (F := F) main_v1
  let main_v3 : FVec F S1024x32 .f32 := (extractStridedSlice S1024x32 ![0, 0] · slices_S1024x32768_S1024x32_0_0) main_v2
  let main_v4 : FVec F S1024x32 .f32 := Host.negf main_v3
  let main_cst : FVec F S_ .f32 := constant S_ .f32 0x7F800000#32
  let main_v5 : FVec F S1024x1 .f32 := broadcastInDim S1024x1 ![] bcast_S_S1024x1 main_cst
  let main_v6 : FVec F S1024x31 .f32 := (extractStridedSlice S1024x31 ![0, 0] · slices_S1024x32_S1024x31_0_0) main_v4
  let main_v7 : FVec F S1024x32 .f32 := (fun a b => concatenate S1024x32 1 [⟨S1024x1, a⟩, ⟨S1024x31, b⟩] concatenates_S1024x1_S1024x31_S1024x32_d1) main_v5 main_v6
  let main_v8 : IVec S1024x32x32 32 := iotaInDim S1024x32x32 32 2
  let main_v9 : IVec S1024x32x32 32 := iotaInDim S1024x32x32 32 1
  let main_v10 : IVec S1024x32x32 1 := cmpi .sgt main_v8 main_v9
  let main_v11 : IVec S1024x32 1 := cmpf .olt main_v4 main_v7
  let main_v12 : IVec S1024x1x32 1 := broadcastInDim S1024x1x32 ![0, 2] bcast_S1024x32_S1024x1x32_0_2 main_v11
  let main_v13 : IVec S1024x32x32 1 := broadcastInDim S1024x32x32 ![0, 1, 2] bcast_S1024x1x32_S1024x32x32_0_1_2 main_v12
  let main_v14 : IVec S1024x32x32 1 := ori main_v13 main_v10
  let main_c : IVec S_ 1 := constantI S_ 1 1#1
  let main_v15 : IVec S1024x32 1 := (fun x v => Host.reduce IntOp.andi x v reducesTo_S1024x32x32_S1024x32_d2 h_S_) main_v14 main_c
  main_v15
-- ==== Kernel.lean ====
abbrev S1024x8192 : Shape := ⟨2, ![1024, 8192]⟩
abbrev S1024x32 : Shape := ⟨2, ![1024, 32]⟩
abbrev S1024x2048 : Shape := ⟨2, ![1024, 2048]⟩
abbrev S1024x128 : Shape := ⟨2, ![1024, 128]⟩
abbrev S1024x2176 : Shape := ⟨2, ![1024, 2176]⟩
abbrev S4x1024x32 : Shape := ⟨3, ![4, 1024, 32]⟩
abbrev S4 : Shape := ⟨1, ![4]⟩
abbrev S1024x1 : Shape := ⟨2, ![1024, 1]⟩
abbrev S1024 : Shape := ⟨1, ![1024]⟩
abbrev S_ : Shape := ⟨0, ![]⟩
abbrev S1 : Shape := ⟨1, ![1]⟩
abbrev S1x1024x32 : Shape := ⟨3, ![1, 1024, 32]⟩
abbrev S4x1024 : Shape := ⟨2, ![4, 1024]⟩
abbrev S1x1024x1 : Shape := ⟨3, ![1, 1024, 1]⟩

abbrev nBuf : Space → Nat
  | .hbm => 2
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S1024x32, .f32⟩
  | .local _ .vmem, ⟨0, _⟩ => ⟨S1024x2048, .bf16⟩
  | .local _ .vmem, ⟨1, _⟩ => ⟨S1024x2048, .bf16⟩
  | .local _ .vmem, ⟨2, _⟩ => ⟨S1024x32, .f32⟩
  | .local _ .vmem, ⟨3, _⟩ => ⟨S1024x128, .f32⟩
  | .local _ .vmem, ⟨4, _⟩ => ⟨S1024x2176, .f32⟩
  | .local _ .vmem, ⟨5, _⟩ => ⟨S1024x32, .f32⟩
  | .local _ .vmem, ⟨6, _⟩ => ⟨S4x1024x32, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem0_1 : DmaSem sig := 1
abbrev cc0_sem1_0 : DmaSem sig := 2
abbrev barrier0 : Sem sig := 0

abbrev nD : Nat := 32
abbrev τ : Topo := Topo.v7x

variable {F : FTy → Type} [FloatOps F]

abbrev grid0 : Pipeline.Grid := ⟨1, ![4], ![false]⟩

@[reducible] def k0_t1_loop : Scf.Loop 32 :=
  let c0_i32_12 : BitVec 32 := 0#32
  let c32_i32 : BitVec 32 := 32#32
  let v28 : BitVec 32 := Scalar.addi c0_i32_12 c32_i32
  let c1_i32_13 : BitVec 32 := 1#32
  ⟨c0_i32_12, v28, c1_i32_13⟩
def k0_cond2 (i : grid0.Coords) : BitVec 1 :=
  let arg0 : BitVec 32 := BitVec.ofNat 32 (i 0).val
  let c3_i32 : BitVec 32 := 3#32
  let v30 : BitVec 1 := Scalar.cmpi .eq arg0 c3_i32
  let v31 : BitVec 32 := Scalar.extui v30
  let c0_i32_15 : BitVec 32 := 0#32
  let v32 : BitVec 1 := Scalar.cmpi .ne v31 c0_i32_15
  v32

def k0_dev1 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v40 : BitVec 32 := Scalar.muli v2 c16_i32_23
  let v41 : BitVec 32 := Scalar.addi c0_i32_24 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_20 : BitVec 32 := 1#32
  let v38 : BitVec 32 := Scalar.addi v5 c1_i32_20
  let c4_i32_21 : BitVec 32 := 4#32
  let v39 : BitVec 32 := Scalar.remsi v38 c4_i32_21
  let c4_i32_25 : BitVec 32 := 4#32
  let v42 : BitVec 32 := Scalar.muli v39 c4_i32_25
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v44 : BitVec 32 := Scalar.muli v8 c1_i32_26
  let v45 : BitVec 32 := Scalar.addi v43 v44
  v45.toNat
def k0_dev2 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v48 : BitVec 32 := Scalar.muli v2 c16_i32_30
  let v49 : BitVec 32 := Scalar.addi c0_i32_31 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_27 : BitVec 32 := 2#32
  let v46 : BitVec 32 := Scalar.addi v5 c2_i32_27
  let c4_i32_28 : BitVec 32 := 4#32
  let v47 : BitVec 32 := Scalar.remsi v46 c4_i32_28
  let c4_i32_32 : BitVec 32 := 4#32
  let v50 : BitVec 32 := Scalar.muli v47 c4_i32_32
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v52 : BitVec 32 := Scalar.muli v8 c1_i32_33
  let v53 : BitVec 32 := Scalar.addi v51 v52
  v53.toNat
def k0_dev3 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v56 : BitVec 32 := Scalar.muli v2 c16_i32_37
  let v57 : BitVec 32 := Scalar.addi c0_i32_38 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_34 : BitVec 32 := 3#32
  let v54 : BitVec 32 := Scalar.addi v5 c3_i32_34
  let c4_i32_35 : BitVec 32 := 4#32
  let v55 : BitVec 32 := Scalar.remsi v54 c4_i32_35
  let c4_i32_39 : BitVec 32 := 4#32
  let v58 : BitVec 32 := Scalar.muli v55 c4_i32_39
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v60 : BitVec 32 := Scalar.muli v8 c1_i32_40
  let v61 : BitVec 32 := Scalar.addi v59 v60
  v61.toNat
def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off2 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_49 : BitVec 32 := 0#32
  let c0_i32_50 : BitVec 32 := 0#32
  ![v5.toNat, 0, 0]
def k0_dev4 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v64 : BitVec 32 := Scalar.muli v2 c16_i32_45
  let v65 : BitVec 32 := Scalar.addi c0_i32_46 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v62 : BitVec 32 := Scalar.addi v5 c1_i32_42
  let c4_i32_43 : BitVec 32 := 4#32
  let v63 : BitVec 32 := Scalar.remsi v62 c4_i32_43
  let c4_i32_47 : BitVec 32 := 4#32
  let v66 : BitVec 32 := Scalar.muli v63 c4_i32_47
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v68 : BitVec 32 := Scalar.muli v8 c1_i32_48
  let v69 : BitVec 32 := Scalar.addi v67 v68
  v69.toNat
def k0_dev5 (d0 : Dev nD) : Nat :=
  let c0_i32_55 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_54 : BitVec 32 := 16#32
  let v78 : BitVec 32 := Scalar.muli v2 c16_i32_54
  let v79 : BitVec 32 := Scalar.addi c0_i32_55 v78
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_51 : BitVec 32 := 2#32
  let v76 : BitVec 32 := Scalar.addi v5 c2_i32_51
  let c4_i32_52 : BitVec 32 := 4#32
  let v77 : BitVec 32 := Scalar.remsi v76 c4_i32_52
  let c4_i32_56 : BitVec 32 := 4#32
  let v80 : BitVec 32 := Scalar.muli v77 c4_i32_56
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v82 : BitVec 32 := Scalar.muli v8 c1_i32_57
  let v83 : BitVec 32 := Scalar.addi v81 v82
  v83.toNat
def k0_dev6 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v92 : BitVec 32 := Scalar.muli v2 c16_i32_63
  let v93 : BitVec 32 := Scalar.addi c0_i32_64 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_60 : BitVec 32 := 3#32
  let v90 : BitVec 32 := Scalar.addi v5 c3_i32_60
  let c4_i32_61 : BitVec 32 := 4#32
  let v91 : BitVec 32 := Scalar.remsi v90 c4_i32_61
  let c4_i32_65 : BitVec 32 := 4#32
  let v94 : BitVec 32 := Scalar.muli v91 c4_i32_65
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v96 : BitVec 32 := Scalar.muli v8 c1_i32_66
  let v97 : BitVec 32 := Scalar.addi v95 v96
  v97.toNat
def k0_off3 (d0 : Dev nD) (c1_i32_81 : BitVec 32) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v116 : BitVec 32 := Scalar.addi v5 c1_i32_81
  let c4_i32_82 : BitVec 32 := 4#32
  let v117 : BitVec 32 := Scalar.remsi v116 c4_i32_82
  ![v117.toNat]
def k0_off4 (d0 : Dev nD) (c1_i32_81 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v116 : BitVec 32 := Scalar.addi v5 c1_i32_81
  let c4_i32_82 : BitVec 32 := 4#32
  let v117 : BitVec 32 := Scalar.remsi v116 c4_i32_82
  let c0_i32_88 : BitVec 32 := 0#32
  let c0_i32_89 : BitVec 32 := 0#32
  ![v117.toNat, 0, 0]
@[reducible] def k0_t2_loop : Scf.Loop 32 :=
  let c0_i32_111 : BitVec 32 := 0#32
  let c32_i32_112 : BitVec 32 := 32#32
  let v155 : BitVec 32 := Scalar.addi c0_i32_111 c32_i32_112
  let c1_i32_113 : BitVec 32 := 1#32
  ⟨c0_i32_111, v155, c1_i32_113⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S1024x32768 : Shape := ⟨2, ![1024, 32768]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S1024x32768, .f32⟩
  | .hbm, ⟨2, _⟩ => ⟨S1024x32768, .f32⟩
  | .hbm, ⟨3, _⟩ => ⟨S1024x32768, .i32⟩
  | .hbm, ⟨4, _⟩ => ⟨S1024x32768, .f32⟩
  | .hbm, ⟨5, _⟩ => ⟨S1024x32768, .i32⟩
  | .hbm, ⟨6, _⟩ => ⟨S1024x32, .i32⟩
  | .hbm, ⟨7, _⟩ => ⟨S_, .i32⟩
  | .hbm, ⟨8, _⟩ => ⟨S1024x32, .i32⟩
  | .hbm, ⟨9, _⟩ => ⟨S1024x32, .i1⟩
  | .hbm, ⟨10, _⟩ => ⟨S_, .i32⟩
  | .hbm, ⟨11, _⟩ => ⟨S1024x32, .i32⟩
  | .hbm, ⟨12, _⟩ => ⟨S1024x32, .i32⟩
  | .hbm, ⟨13, _⟩ => ⟨S1024x32, .i32⟩
  | .hbm, ⟨14, _⟩ => ⟨S1024x32x1, .i32⟩
  | .hbm, ⟨15, _⟩ => ⟨S1, .i32⟩
  | .hbm, ⟨16, _⟩ => ⟨S_, .i32⟩
  | .hbm, ⟨17, _⟩ => ⟨S1024x32x1, .i32⟩
  | .hbm, ⟨18, _⟩ => ⟨S1024x32x1, .i1⟩
  | .hbm, ⟨19, _⟩ => ⟨S1x1x1, .i32⟩
  | .hbm, ⟨20, _⟩ => ⟨S1024x32x1, .i32⟩
  | .hbm, ⟨21, _⟩ => ⟨S1024x32x1, .i1⟩
  | .hbm, ⟨22, _⟩ => ⟨S1024x32x1, .i1⟩
  | .hbm, ⟨23, _⟩ => ⟨S_, .i1⟩
  | .hbm, ⟨24, _⟩ => ⟨S1024x32, .i1⟩
  | .hbm, ⟨25, _⟩ => ⟨S1024x32, .f32⟩
  | .hbm, ⟨26, _⟩ => ⟨S_, .f32⟩
  | .hbm, ⟨27, _⟩ => ⟨S1024x32, .f32⟩
  | .hbm, ⟨28, _⟩ => ⟨S1024x32, .f32⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== DistinctIdeal.lean ====
abbrev S1024x32768 : Shape := ⟨2, ![1024, 32768]⟩
abbrev S_ : Shape := ⟨0, ![]⟩
abbrev S1024x1 : Shape := ⟨2, ![1024, 1]⟩
abbrev S1024x32767 : Shape := ⟨2, ![1024, 32767]⟩
abbrev S1024x32 : Shape := ⟨2, ![1024, 32]⟩

abbrev nBuf : Space → Nat
  | .hbm => 18
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S1024x32768, .f32⟩
  | .hbm, ⟨5, _⟩ => ⟨S_, .f32⟩
  | .hbm, ⟨6, _⟩ => ⟨S1024x1, .f32⟩
  | .hbm, ⟨7, _⟩ => ⟨S1024x32767, .f32⟩
  | .hbm, ⟨8, _⟩ => ⟨S1024x32768, .f32⟩
  | .hbm, ⟨9, _⟩ => ⟨S1024x32768, .i1⟩
  | .hbm, ⟨10, _⟩ => ⟨S_, .f32⟩
  | .hbm, ⟨11, _⟩ => ⟨S_, .f32⟩
  | .hbm, ⟨12, _⟩ => ⟨S1024x32768, .f32⟩
  | .hbm, ⟨13, _⟩ => ⟨S1024x32768, .f32⟩
  | .hbm, ⟨14, _⟩ => ⟨S1024x32768, .f32⟩
  | .hbm, ⟨15, _⟩ => ⟨S1024x32768, .f32⟩
  | .hbm, ⟨16, _⟩ => ⟨S1024x32, .f32⟩
  | .hbm, ⟨17, _⟩ => ⟨S1024x32, .f32⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Common.lean ====
/-
# 01_k — `Common`: the exchange among the four devices of a y-ring, its cells, contents and schedule

Every device reduces its block of columns to a sorted list `mine` of 32 values per row; at the last grid point the
four devices that share x and z exchange these lists. Protocol, for device `c` with y-coordinate `yk c`:

* `c` signals the barrier semaphore of its three peers; the unit paid to peer `q` hands `q` the slot `yk q` of `c`'s
  `gather` buffer, which only `q` will write;
* `c` waits for three units, so it holds slot `yk c` of each peer's `gather` buffer;
* `c` sends `mine c` to each peer, lending a third of its own buffer to each transfer;
* `c` waits for its three transfers (its buffer back) and for the three arrivals (its slots, with the peers' lists).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Ring
public import Idealize.ShloMosaic.Lib.Ring.Trips
public import Idealize.ShloMosaic.Lib.ValueLayout
public import Idealize.ShloMosaic.Lib.Tactic

@[expose] public section

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

/-! ## The resource algebra: the pipeline library's copy and the exchange's, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh's y-ring -/

/-- The y-coordinate of a device (device `16 x + 4 y + z`). -/
def yk (c : Dev nD) : Fin 4 := ⟨c.val / 4 % 4, Nat.mod_lt _ (by decide)⟩

/-- The device at y-coordinate `j` with `c`'s x and z. -/
def peer (c : Dev nD) (j : Fin 4) : Dev nD :=
  ⟨16 * (c.val / 16) + 4 * j.val + c.val % 4, by have := c.isLt; have := j.isLt; show _ < 32; have : c.val < 32 := c.isLt; omega⟩

/-- The peer `δ + 1` steps after `c` along the ring. -/
def pk (c : Dev nD) (δ : Fin 3) : Dev nD := peer c ⟨(c.val / 4 % 4 + (δ.val + 1)) % 4, Nat.mod_lt _ (by decide)⟩

/-- The step that leads back. -/
def rev (δ : Fin 3) : Fin 3 := ⟨2 - δ.val, by omega⟩

/-- `k` places after `j` on the ring of four. -/
def aft (j : Fin 4) (δ : Fin 3) : Fin 4 := ⟨(j.val + (δ.val + 1)) % 4, Nat.mod_lt _ (by decide)⟩

theorem rev_rev (δ : Fin 3) : rev (rev δ) = δ := by revert δ; decide
theorem pk_rev (c : Dev nD) (δ : Fin 3) : pk (pk c δ) (rev δ) = c := by revert c δ; decide
theorem pk_rev' (c : Dev nD) (δ : Fin 3) : pk (pk c (rev δ)) δ = c := by revert c δ; decide
theorem yk_pk (c : Dev nD) (δ : Fin 3) : yk (pk c δ) = aft (yk c) δ := by revert c δ; decide
theorem yk_pk_ne (c : Dev nD) (δ : Fin 3) : yk c ≠ yk (pk c δ) := by revert c δ; decide
theorem yk_pk_ne' (c : Dev nD) (δ : Fin 3) : yk (pk c δ) ≠ yk c := by revert c δ; decide
theorem pk_peer (c : Dev nD) (δ : Fin 3) : peer (pk c δ) (yk c) = c := by revert c δ; decide
theorem peer_pk (c : Dev nD) (δ : Fin 3) : peer c (aft (yk c) δ) = pk c δ := by revert c δ; decide
theorem pk_inj (c : Dev nD) : ∀ δ δ', pk c δ = pk c δ' → δ = δ' := by revert c; decide

/-- The kernel's device words: signals and transfers go to `pk c 0`, `pk c 1`, `pk c 2`. -/
theorem dev1_eq (c : Dev nD) (h) : (⟨k0_dev1 c, h⟩ : Dev nD) = pk c 0 := Fin.ext ((k0_dev1_eq c).trans (by revert c; decide))
theorem dev2_eq (c : Dev nD) (h) : (⟨k0_dev2 c, h⟩ : Dev nD) = pk c 1 := Fin.ext ((k0_dev2_eq c).trans (by revert c; decide))
theorem dev3_eq (c : Dev nD) (h) : (⟨k0_dev3 c, h⟩ : Dev nD) = pk c 2 := Fin.ext ((k0_dev3_eq c).trans (by revert c; decide))
theorem dev4_eq (c : Dev nD) (h) : (⟨k0_dev4 c, h⟩ : Dev nD) = pk c 0 := Fin.ext ((k0_dev4_eq c).trans (by revert c; decide))
theorem dev5_eq (c : Dev nD) (h) : (⟨k0_dev5 c, h⟩ : Dev nD) = pk c 1 := Fin.ext ((k0_dev5_eq c).trans (by revert c; decide))
theorem dev6_eq (c : Dev nD) (h) : (⟨k0_dev6 c, h⟩ : Dev nD) = pk c 2 := Fin.ext ((k0_dev6_eq c).trans (by revert c; decide))

/-! ## The memrefs and cells -/

abbrev oM : Memref sig .tc .vmem S1024x32 .f32 := Memref.whole cc0_stg1_0
abbrev bM : Memref sig .tc .vmem S1024x128 .f32 := Memref.whole cc0_scratch0
abbrev pM : Memref sig .tc .vmem S1024x2176 .f32 := Memref.whole cc0_scratch1
abbrev mM : Memref sig .tc .vmem S1024x32 .f32 := Memref.whole cc0_scratch2
abbrev gM : Memref sig .tc .vmem S4x1024x32 .f32 := Memref.whole cc0_scratch3

theorem slot_inb (j : Fin 4) : ∀ a, (![j.val, 0, 0] : Fin 3 → ℕ) a + S1x1024x32.size a ≤ S4x1024x32.size a := by
  revert j; decide

/-- Slot `j` of the gather buffer. -/
abbrev slotM (j : Fin 4) : Memref sig .tc .vmem S1024x32 .f32 :=
  (gM.slice (Rect.unit (s := S4x1024x32) ![j.val, 0, 0] S1x1024x32.size (slot_inb j)) (fun _ => rfl)).squeeze S1024x32 squeezes_S1x1024x32_S1024x32

/-- The runtime's barrier semaphore, and the four send and four receive semaphores. -/
abbrev barS : Sem sig := (SemArray.scalar (sig.barrier 0 rfl) : Sems sig S_).sem
def sendS (j : Fin 4) : DmaSem sig := ⟨3 + j.val, by show _ < 11; omega⟩
def recvS (j : Fin 4) : DmaSem sig := ⟨7 + j.val, by show _ < 11; omega⟩

abbrev barCell (c : Dev nD) : GSem nD τ sig := ((c : Thread nD τ), .reg barS)
abbrev sendCell (c : Dev nD) (j : Fin 4) : GSem nD τ sig := ((c : Thread nD τ), .dma (sendS j))
abbrev recvCell (c : Dev nD) (j : Fin 4) : GSem nD τ sig := ((c : Thread nD τ), .dma (recvS j))

/-- The credit of one list's transfer. -/
abbrev N : ℕ := mM.view.dmaCredit
theorem N_pos : 0 < N := View.dmaCredit_pos _ (by decide)

/-! ## Contents -/

/-- The block of `x` the window holds at point `t`. -/
def xblk (c : Dev nD) (t : Fin cfg0.N) : FVec F S1024x2048 .bf16 :=
  (win0_0.blk t).view.read (Elt F) (m ((c : Thread nD τ).loc main_arg0))

/-- The pool: the list so far beside the chunk of columns. -/
def poolOf (b : FVec F S1024x128 .f32) (x : FVec F S1024x2048 .bf16) : FVec F S1024x2176 .f32 := fun i =>
  if h : (i 1).val < 128 then k0_pay9 b (ix2 (i 0) ⟨(i 1).val, h⟩)
  else k0_pay10 x (ix2 (i 0) ⟨(i 1).val - 128, by have : (i 1).val < 2176 := (i 1).isLt; omega⟩)

/-- One trip of the selection loop: previous maximum, pool, list. -/
def step1 (k : Fin k0_t1_loop.trips) (s : FVec F S1024x1 .f32 × FVec F S1024x2176 .f32 × FVec F S1024x128 .f32) :
    FVec F S1024x1 .f32 × FVec F S1024x2176 .f32 × FVec F S1024x128 .f32 :=
  (k0_pay15 s.1 s.2.1 s.2.1, k0_pay14 s.1 s.2.1 s.2.1, k0_pay16 k s.1 s.2.1 s.2.1 s.2.2)

/-- The state before trip `n`. -/
def st1 (p : FVec F S1024x2176 .f32) : ℕ → FVec F S1024x1 .f32 × FVec F S1024x2176 .f32 × FVec F S1024x128 .f32
  | 0 => (k0_pay12, p, k0_pay11)
  | n + 1 => if h : n < k0_t1_loop.trips then step1 ⟨n, h⟩ (st1 p n) else st1 p n

theorem st1_succ (p : FVec F S1024x2176 .f32) (k : Fin k0_t1_loop.trips) : st1 p (k.val + 1) = step1 k (st1 p k.val) := by
  rw [st1, dif_pos k.isLt]

/-- The list after the chunks before point `n`. -/
def bestAt (c : Dev nD) : ℕ → FVec F S1024x128 .f32
  | 0 => k0_pay7
  | n + 1 => if h : n < cfg0.N then (st1 (poolOf (bestAt c n) (xblk m c ⟨n, h⟩)) k0_t1_loop.trips).2.2 else bestAt c n

theorem bestAt_succ (c : Dev nD) (t : Fin cfg0.N) :
    bestAt m c (t.val + 1) = (st1 (poolOf (bestAt m c t.val) (xblk m c t)) k0_t1_loop.trips).2.2 := by
  rw [bestAt, dif_pos t.isLt]

/-- The first 32 columns of a list. -/
def head32 (b : FVec F S1024x128 .f32) : FVec F S1024x32 .f32 := fun i => b (ix2 (i 0) ⟨(i 1).val, by have : (i 1).val < 32 := (i 1).isLt; omega⟩)

/-- The list a device sends. -/
def mine (c : Dev nD) : FVec F S1024x32 .f32 := k0_pay5 (head32 (bestAt m c 4))

/-- The gather buffer once the peers' lists are in: a device's own slot stays as it was filled. -/
def gath (c : Dev nD) : FVec F S4x1024x32 .f32 := fun i => if (i 0).val = (yk c).val then k0_pay8 i else mine m (peer c (i 0)) (ix2 (i 1) (i 2))

/-- One trip of the merging loop: result, gathered lists, own list. -/
def step2 (k : Fin k0_t2_loop.trips) (s : FVec F S1024x32 .f32 × FVec F S4x1024x32 .f32 × FVec F S1024x32 .f32) :
    FVec F S1024x32 .f32 × FVec F S4x1024x32 .f32 × FVec F S1024x32 .f32 :=
  (k0_pay2 (iota .tc S1024x32 32 [1] iota_S1024x32_d1_w32) 0#32 1#32 k s.2.1 s.2.2 s.1, k0_pay3 s.2.1 s.2.2, k0_pay4 s.2.1 s.2.2)

/-- The state before trip `n`. -/
def st2 (c : Dev nD) : ℕ → FVec F S1024x32 .f32 × FVec F S4x1024x32 .f32 × FVec F S1024x32 .f32
  | 0 => (k0_pay6, gath m c, mine m c)
  | n + 1 => if h : n < k0_t2_loop.trips then step2 ⟨n, h⟩ (st2 c n) else st2 c n

theorem st2_succ (c : Dev nD) (k : Fin k0_t2_loop.trips) : st2 m c (k.val + 1) = step2 k (st2 m c k.val) := by
  rw [st2, dif_pos k.isLt]

/-- The kernel's result on device `c`. -/
def outAt (c : Dev nD) : FVec F S1024x32 .f32 := (st2 m c k0_t2_loop.trips).1

/-! ## Slots -/

def slotPts (c : Dev nD) (j : Fin 4) (f : Buf (Elt F) ((c : Thread nD τ).loc cc0_scratch3)) : sProp 𝕄 :=
  (slotM j).view.loc (c : Thread nD τ) ↦[(slotM j).view.set]{fullShare} f
def minePts (c : Dev nD) (j : Fin 3) : sProp 𝕄 :=
  mM.view.loc (c : Thread nD τ) ↦[mM.view.set]{Ring.shares3 fullShare j} mine m c

instance slotPts_storable (c : Dev nD) (j) (f) : BI.Storable (upEmb : UEmb _ 𝕄) (slotPts (F := F) c j f) := by unfold slotPts; infer_instance
instance minePts_storable (c : Dev nD) (j) : BI.Storable (upEmb : UEmb _ 𝕄) (minePts (F := F) m c j) := by unfold minePts; infer_instance

theorem slot_set (j : Fin 4) : (slotM j).view.set = (Rect.unit (s := S4x1024x32) ![j.val, 0, 0] S1x1024x32.size (slot_inb j)).set :=
  (Memref.set_view_squeeze _ _).trans (View.set_slice_whole _ _)

theorem mem_slot (j : Fin 4) (i : S4x1024x32.Idx) : i ∈ (slotM j).view.set ↔ i 0 = j := by
  rw [slot_set, Rect.mem_set_unit]
  constructor
  · intro h
    have h0 := h 0
    have e : (![j.val, 0, 0] : Fin 3 → ℕ) 0 = j.val := rfl
    have e' : S1x1024x32.size 0 = 1 := rfl
    exact Fin.ext (by omega)
  · rintro rfl a
    match a with
    | ⟨0, _⟩ => exact ⟨le_refl _, Nat.lt_succ_self _⟩
    | ⟨1, _⟩ => exact ⟨Nat.zero_le _, by have : (i 1).val < 1024 := (i 1).isLt; show (i 1).val < 0 + 1024; omega⟩
    | ⟨2, _⟩ => exact ⟨Nat.zero_le _, by have : (i 2).val < 32 := (i 2).isLt; show (i 2).val < 0 + 32; omega⟩

theorem slot_emb (j : Fin 4) (a : Fin 1024) (b : Fin 32) : (slotM j).view.emb (ix2 a b) = (ix3 j a b : S4x1024x32.Idx) := by
  have e : Shape.reshapeEquiv (Shape.Squeezes.numel_eq squeezes_S1x1024x32_S1024x32) (ix2 a b) = ix3 (0 : Fin 1) a b :=
    ValueIdx.reshapeEquiv_ix2_1ab _ a b
  show (Rect.unit (s := S4x1024x32) ![j.val, 0, 0] S1x1024x32.size (slot_inb j)).emb (Shape.reshapeEquiv _ (ix2 a b)) = _
  rw [e]
  funext x
  match x with
  | ⟨0, _⟩ => exact Fin.ext (by show j.val + 1 * 0 = j.val; omega)
  | ⟨1, _⟩ => exact Fin.ext (by show 0 + 1 * a.val = a.val; omega)
  | ⟨2, _⟩ => exact Fin.ext (by show 0 + 1 * b.val = b.val; omega)

/-- The gather buffer whole is its four slots. -/
theorem gather_slots (c : Dev nD) (f : Buf (Elt F) ((c : Thread nD τ).loc cc0_scratch3)) :
    (((c : Thread nD τ).loc cc0_scratch3) ↦{fullShare} f : sProp 𝕄) = bigSep Finset.univ fun j : Fin 4 => slotPts c j f := by
  unfold slotPts
  refine Ring.pointsTo_blocks (ℓ := (c : Thread nD τ).loc cc0_scratch3) (fun j : Fin 4 => (slotM j).view.set) ?_ ?_ f
  · intro b b' h
    refine Finset.disjoint_left.mpr fun i hi hi' => h ?_
    exact ((mem_slot b i).mp hi).symm.trans ((mem_slot b' i).mp hi')
  · refine Finset.eq_univ_iff_forall.mpr fun i => Finset.mem_biUnion.mpr ⟨(i : S4x1024x32.Idx) 0, Finset.mem_univ _, (mem_slot _ i).mpr rfl⟩

theorem slotPts_congr (c : Dev nD) (j : Fin 4) (f g : Buf (Elt F) ((c : Thread nD τ).loc cc0_scratch3))
    (h : ∀ a b, (f : FVec F S4x1024x32 .f32) (ix3 j a b) = (g : FVec F S4x1024x32 .f32) (ix3 j a b)) : (slotPts c j f : sProp 𝕄) = slotPts c j g := by
  unfold slotPts
  refine pointsTo_congr fun i hi => ?_
  have e : (i : S4x1024x32.Idx) = ix3 j (i 1) (i 2) := by
    have := (mem_slot j i).mp hi
    funext x
    match x with
    | ⟨0, _⟩ => exact this
    | ⟨1, _⟩ => rfl
    | ⟨2, _⟩ => rfl
  exact ((congrArg f e).trans (h (i 1) (i 2))).trans (congrArg g e).symm

/-- A list landed in slot `yk p` of device `c`, from the peer `p`, is `gath c` there. -/
theorem landed_slot (c : Dev nD) (δ : Fin 3) (fd : Buf (Elt F) ((pk c δ : Thread nD τ).loc cc0_scratch3)) :
    ((slotM (yk c)).view.loc (pk c δ : Thread nD τ) ↦[(slotM (yk c)).view.set]{fullShare}
        ((slotM (yk c)).view.write (Elt F) fd (mM.view.read (Elt F) (mine m c)) Finset.univ) : sProp 𝕄)
      = slotPts (pk c δ) (yk c) (gath m (pk c δ)) := by
  refine slotPts_congr (pk c δ) (yk c) ((slotM (yk c)).view.write (Elt F) fd (mM.view.read (Elt F) (mine m c)) Finset.univ) _ fun a b => ?_
  refine (congrArg _ (slot_emb (yk c) a b).symm).trans ?_
  rw [View.write_emb_of_mem _ _ (Finset.mem_univ _)]
  unfold gath
  rw [if_neg (fun h => yk_pk_ne c δ (Fin.ext h))]
  show mine m c (ix2 a b) = mine m (peer (pk c δ) (yk c)) (ix2 a b)
  rw [pk_peer]

/-! ## The schedule -/

/-- What the peer `pk q (rev δ)`'s signal hands `q`: slot `yk q` of that peer's gather buffer, and that the peer has reached
    round 0 of the receive cell that answers for the slot. -/
def barPay (q : Dev nD) (δ : Fin 3) : sProp 𝕄 :=
  iprop((∃ f, slotPts (pk q (rev δ)) (yk q) f) ∗ reached ER (recvCell (pk q (rev δ)) (yk q)) 0)
def sendPay (c : Dev nD) (j : Fin 3) : sProp 𝕄 := minePts m c j
def recvPay (c : Dev nD) (j : Fin 4) : sProp 𝕄 := slotPts c j (gath m c)

instance barPay_storable (c : Dev nD) (δ) : BI.Storable (upEmb : UEmb _ 𝕄) (barPay (F := F) c δ) := by unfold barPay; infer_instance
instance sendPay_storable (c : Dev nD) (δ) : BI.Storable (upEmb : UEmb _ 𝕄) (sendPay (F := F) m c δ) := by unfold sendPay; infer_instance
instance recvPay_storable (c : Dev nD) (δ) : BI.Storable (upEmb : UEmb _ 𝕄) (recvPay (F := F) m c δ) := by unfold recvPay; infer_instance

/-- The duties of a device's cell: three on its barrier; one on each send cell it uses and on each receive cell a peer uses. -/
def dutiesOf (c : Dev nD) : SemLoc sig → Finset (Fin 3)
  | .reg _ => Finset.univ
  | .dma q => if 3 ≤ q.val ∧ q.val < 6 then {0} else if 7 ≤ q.val ∧ q.val ≠ 7 + (yk c).val then {0} else ∅

/-- What a duty's units hand over. -/
def payOf (c : Dev nD) : SemLoc sig → Fin 3 → sProp 𝕄
  | .reg _, δ => barPay c δ
  | .dma q, _ => if h : 3 ≤ q.val ∧ q.val < 6 then sendPay m c ⟨q.val - 3, by omega⟩
      else if h : 7 ≤ q.val then recvPay m c ⟨q.val - 7, by have : q.val < 11 := q.isLt; omega⟩ else iprop(emp)

/-- One round, round 0. -/
def Rd : Rounds.Schedule (GSem nD τ sig) (Fin 3) 𝕄 where
  duties g r := if r = 0 ∧ g.1.2 = .tc then dutiesOf g.1.1 g.2 else ∅
  unitless _ := False
  amount g _ _ := match g.2 with
    | .reg _ => 1
    | .dma _ => N
  payload g _ d := payOf m g.1.1 g.2 d
  amount_pos g _ _ _ := by
    split
    · exact Nat.one_pos
    · exact N_pos

instance Rd_payload_storable (g : GSem nD τ sig) (r : ℕ) (d : Fin 3) :
    BI.Storable (upEmb : UEmb _ 𝕄) ((Rd (F := F) m).payload g r d) := by
  show BI.Storable upEmb (payOf m g.1.1 g.2 d)
  unfold payOf
  (repeat' split) <;> infer_instance

section Sched
variable (c : Dev nD)

theorem duties_bar : (Rd (F := F) m).duties (barCell c) 0 = Finset.univ := rfl
theorem duties_send (j : Fin 3) : (Rd (F := F) m).duties (sendCell c j.castSucc) 0 = {0} := by
  show dutiesOf c (.dma (sendS j.castSucc)) = {0}
  dsimp only [dutiesOf]
  exact if_pos ⟨by show 3 ≤ 3 + j.val; omega, by show 3 + j.val < 6; omega⟩
theorem duties_recv (j : Fin 4) (h : j ≠ yk c) : (Rd (F := F) m).duties (recvCell c j) 0 = {0} := by
  show dutiesOf c (.dma (recvS j)) = {0}
  dsimp only [dutiesOf]
  have h' : j.val ≠ (yk c).val := fun e => h (Fin.ext e)
  rw [if_neg (fun h => by have : 7 + j.val < 6 := h.2; omega)]
  exact if_pos ⟨by show 7 ≤ 7 + j.val; omega, by show 7 + j.val ≠ 7 + (yk c).val; omega⟩
theorem duties_send3 : (Rd (F := F) m).duties (sendCell c 3) 0 = ∅ := by
  show dutiesOf c (.dma (sendS 3)) = ∅
  dsimp only [dutiesOf]
  rw [if_neg (by decide), if_neg (fun h => by have : 7 ≤ 6 := h.1; omega)]
theorem duties_recv0 : (Rd (F := F) m).duties (recvCell c (yk c)) 0 = ∅ := by
  show dutiesOf c (.dma (recvS (yk c))) = ∅
  dsimp only [dutiesOf]
  rw [if_neg (fun h => by have : 7 + (yk c).val < 6 := h.2; omega), if_neg (fun h => h.2 rfl)]
theorem duties_later (g : GSem nD τ sig) : ∀ r, 1 ≤ r → (Rd (F := F) m).duties g r = ∅ :=
  fun r hr => by dsimp only [Rd]; rw [if_neg fun h => by omega]
theorem duties_none (g : GSem nD τ sig) (h : (Rd (F := F) m).duties g 0 = ∅) : ∀ r, 0 ≤ r → (Rd (F := F) m).duties g r = ∅ :=
  fun r _ => by
    rcases Nat.eq_zero_or_pos r with rfl | hr
    · exact h
    · exact duties_later m g r hr

theorem amount_bar (d : Fin 3) : (Rd (F := F) m).amount (barCell c) 0 d = 1 := rfl
theorem amount_send (j : Fin 4) (d : Fin 3) : (Rd (F := F) m).amount (sendCell c j) 0 d = N := rfl
theorem amount_recv (j : Fin 4) (d : Fin 3) : (Rd (F := F) m).amount (recvCell c j) 0 d = N := rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (j : Fin 3) : (Rd (F := F) m).expect (sendCell c j.castSucc) 0 = N := by
  unfold Schedule.expect Schedule.amountOf; rw [duties_send, Finset.sum_singleton, amount_send]
theorem expect_recv (j : Fin 4) (h : j ≠ yk c) : (Rd (F := F) m).expect (recvCell c j) 0 = N := by
  unfold Schedule.expect Schedule.amountOf; rw [duties_recv m c j h, Finset.sum_singleton, amount_recv]

theorem payload_bar (d : Fin 3) : (Rd (F := F) m).payload (barCell c) 0 d = barPay c d := rfl
theorem payload_send (j : Fin 3) (d : Fin 3) : (Rd (F := F) m).payload (sendCell c j.castSucc) 0 d = sendPay m c j := by
  show payOf m c (.dma (sendS j.castSucc)) d = _
  unfold payOf
  have h : 3 ≤ (sendS j.castSucc).val ∧ (sendS j.castSucc).val < 6 := ⟨by show 3 ≤ 3 + j.val; omega, by show 3 + j.val < 6; omega⟩
  refine (dif_pos h).trans (congrArg _ (Fin.ext ?_))
  show 3 + j.val - 3 = j.val
  omega
theorem payload_recv (j : Fin 4) (d : Fin 3) : (Rd (F := F) m).payload (recvCell c j) 0 d = recvPay m c j := by
  show payOf m c (.dma (recvS j)) d = _
  unfold payOf
  have h : ¬ (3 ≤ (recvS j).val ∧ (recvS j).val < 6) := fun h => by have : 7 + j.val < 6 := h.2; omega
  have h' : 7 ≤ (recvS j).val := by show 7 ≤ 7 + j.val; omega
  refine (dif_neg h).trans ((dif_pos h').trans (congrArg _ (Fin.ext ?_)))
  show 7 + j.val - 7 = j.val
  omega

/-- The rest of the barrier cell's round, no duty taken: the three payloads. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send (j : Fin 3) :
    bigSep ((Rd (F := F) m).duties (sendCell c j.castSucc) 0 \ ∅) (fun d => (Rd (F := F) m).payload (sendCell c j.castSucc) 0 d) = sendPay m c j := by
  rw [Finset.sdiff_empty, duties_send, bigSep_singleton, payload_send]
theorem rest_recv (j : Fin 4) (h : j ≠ yk c) :
    bigSep ((Rd (F := F) m).duties (recvCell c j) 0 \ ∅) (fun d => (Rd (F := F) m).payload (recvCell c j) 0 d) = recvPay m c j := by
  rw [Finset.sdiff_empty, duties_recv m c j h, bigSep_singleton, payload_recv]

end Sched

/-! ## What each device owes at launch; the levels -/

/-- One arrival at each peer's receive cell, the first transfer's outermost. -/
def OR (c : Dev nD) : CellTallies nD τ sig Unit :=
  0 + tallyAt (recvCell (pk c 2) (yk c)) () N + tallyAt (recvCell (pk c 1) (yk c)) () N + tallyAt (recvCell (pk c 0) (yk c)) () N
/-- One unit on each peer's barrier too, the first signal's outermost. -/
def O₀ (c : Dev nD) : CellTallies nD τ sig Unit :=
  OR c + tallyAt (barCell (pk c 2)) () 1 + tallyAt (barCell (pk c 1)) () 1 + tallyAt (barCell (pk c 0)) () 1

def L (g : GSem nD τ sig) : Finset Unit := if g.1.2 = .tc then {()} else ∅
/-- barrier cells at 1, receive cells at 2, everything else (staging, send) at 0. -/
def lv (g : GSem nD τ sig) (_ : Unit) : ℕ := match g.2 with
  | .reg _ => 1
  | .dma q => if 7 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (j : Fin 4) : lv (recvCell c j) () = 2 := if_pos (by show 7 ≤ 7 + j.val; omega)

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h
  omega

theorem OR_pos {c : Dev nD} {g : GSem nD τ sig} {u : Unit} (h : 0 < OR c g u) : ∃ d j, g = recvCell d j := by
  unfold OR at h
  rcases add_pos_or h with h | h
  · rcases add_pos_or h with h | h
    · rcases add_pos_or h with h | h
      · exact absurd h (Nat.lt_irrefl 0)
      · exact ⟨_, _, tally_pos h⟩
    · exact ⟨_, _, tally_pos h⟩
  · exact ⟨_, _, tally_pos h⟩

theorem O₀_pos {c : Dev nD} {g : GSem nD τ sig} {u : Unit} (h : 0 < O₀ c g u) : (∃ d j, g = recvCell d j) ∨ ∃ d, g = barCell d := by
  unfold O₀ at h
  rcases add_pos_or h with h | h
  · rcases add_pos_or h with h | h
    · rcases add_pos_or h with h | h
      · exact .inl (OR_pos h)
      · exact .inr ⟨_, tally_pos h⟩
    · exact .inr ⟨_, tally_pos h⟩
  · exact .inr ⟨_, tally_pos h⟩

theorem mayWait_stage (c : Dev nD) (q : DmaSem sig) (hq : q.val < 7) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, j, rfl⟩ | ⟨d, rfl⟩ <;> exact Finset.mem_singleton_self _)
      (fun p hp => by rw [Finset.mem_singleton.mp hp]; dsimp only [lv]; rw [if_neg (by omega)])
      (fun g u hg => by
        rcases O₀_pos hg with ⟨d, j, rfl⟩ | ⟨d, rfl⟩
        · rw [lv_recv]; decide
        · rw [lv_bar]; decide)
  · rw [MayWait_zero]; iintro -; iempintro

/-- At its barrier wait a device owes arrivals only: receive cells, above its barrier cell. -/
theorem mayWait_bar (c : Dev nD) :
    (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨d, j, rfl⟩ := OR_pos hg; exact Finset.mem_singleton_self _)
    (fun p hp => by rw [Finset.mem_singleton.mp hp]; exact le_of_eq (lv_bar c))
    (fun g u hg => by obtain ⟨d, j, rfl⟩ := OR_pos hg; rw [lv_recv]; decide)

end Cert.Merge

end
-- ==== Proof.Select.lean ====
/-
# 01_k — `Select`: the kernel's two counted loops and the part of its body every grid point runs
-/
module

public import proofs.«01_k».proof.Proof.Common
public import Idealize.ShloMosaic.Lib.VecWindow

@[expose] public section

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A buffer of device `c` held whole. -/
abbrev own (c : Dev nD) (b : Ref sig .tc) (f : Buf (Elt F) ((c : Thread nD τ).loc b)) : sProp 𝕄 := ((c : Thread nD τ).loc b) ↦{fullShare} f

theorem hz2 : (![0, 0] : Fin 2 → Nat) = fun _ => 0 := funext fun a => by fin_cases a <;> rfl
theorem hz3 : (![0, 0, 0] : Fin 3 → Nat) = fun _ => 0 := funext fun a => by fin_cases a <;> rfl

/-! ## Whole loads and stores -/

abbrev rB : Rect S1024x128 := Rect.unit (s := S1024x128) ![0, 0] S1024x128.size inb_S1024x128_S1024x128_0_0
abbrev rP : Rect S1024x2176 := Rect.unit (s := S1024x2176) ![0, 0] S1024x2176.size inb_S1024x2176_S1024x2176_0_0
abbrev rP0 : Rect S1024x2176 := Rect.unit (s := S1024x2176) ![0, 0] S1024x128.size inb_S1024x2176_S1024x128_0_0
abbrev rP1 : Rect S1024x2176 := Rect.unit (s := S1024x2176) ![0, 128] S1024x2048.size inb_S1024x2176_S1024x2048_0_128
abbrev rO : Rect S1024x32 := Rect.unit (s := S1024x32) ![0, 0] S1024x32.size inb_S1024x32_S1024x32_0_0
abbrev rG : Rect S4x1024x32 := Rect.unit (s := S4x1024x32) ![0, 0, 0] S4x1024x32.size inb_S4x1024x32_S4x1024x32_0_0_0

theorem read_b (f : FVec F S1024x128 .f32) : bM.view.readAt (Elt F) rB.toLoadRect f = f := Memref.readAt_unit_zero (Elt F) cc0_scratch0 hz2 _ f
theorem read_p (f : FVec F S1024x2176 .f32) : pM.view.readAt (Elt F) rP.toLoadRect f = f := Memref.readAt_unit_zero (Elt F) cc0_scratch1 hz2 _ f
theorem read_m (f : FVec F S1024x32 .f32) : mM.view.readAt (Elt F) rO.toLoadRect f = f := Memref.readAt_unit_zero (Elt F) cc0_scratch2 hz2 _ f
theorem read_g (f : FVec F S4x1024x32 .f32) : gM.view.readAt (Elt F) rG.toLoadRect f = f := Memref.readAt_unit_zero (Elt F) cc0_scratch3 hz3 _ f
theorem read_o (f : FVec F S1024x32 .f32) : oM.view.readAt (Elt F) rO.toLoadRect f = f := Memref.readAt_unit_zero (Elt F) cc0_stg1_0 hz2 _ f

theorem write_b (f w : FVec F S1024x128 .f32) : (bM.access rB : View sig .tc _ _ _).write (Elt F) f w Finset.univ = w :=
  Memref.write_access_unit_zero_univ (Elt F) cc0_scratch0 hz2 _ f w
theorem write_p (f w : FVec F S1024x2176 .f32) : (pM.access rP : View sig .tc _ _ _).write (Elt F) f w Finset.univ = w :=
  Memref.write_access_unit_zero_univ (Elt F) cc0_scratch1 hz2 _ f w
theorem write_m (f w : FVec F S1024x32 .f32) : (mM.access rO : View sig .tc _ _ _).write (Elt F) f w Finset.univ = w :=
  Memref.write_access_unit_zero_univ (Elt F) cc0_scratch2 hz2 _ f w
theorem write_g (f w : FVec F S4x1024x32 .f32) : (gM.access rG : View sig .tc _ _ _).write (Elt F) f w Finset.univ = w :=
  Memref.write_access_unit_zero_univ (Elt F) cc0_scratch3 hz3 _ f w
theorem write_o (f w : FVec F S1024x32 .f32) : (oM.access rO : View sig .tc _ _ _).write (Elt F) f w Finset.univ = w :=
  Memref.write_access_unit_zero_univ (Elt F) cc0_stg1_0 hz2 _ f w

/-- The two stores that fill the pool, over any contents, leave the list beside the chunk. -/
theorem write_pool (f : FVec F S1024x2176 .f32) (b : FVec F S1024x128 .f32) (x : FVec F S1024x2048 .bf16) :
    (pM.access rP1 : View sig .tc _ _ _).write (Elt F) ((pM.access rP0 : View sig .tc _ _ _).write (Elt F) f (k0_pay9 b) Finset.univ) (k0_pay10 x) Finset.univ
      = poolOf b x := by
  have e0 : (pM.access rP0 : View sig .tc _ _ _).write (Elt F) f (k0_pay9 b) Finset.univ = updateSlice f (k0_pay9 b) ![0, 0] ⟨rfl, inb_S1024x2176_S1024x128_0_0⟩ :=
    View.write_whole_slice_unit (Val := Elt F) cc0_scratch1 ![0, 0] S1024x128.size inb_S1024x2176_S1024x128_0_0 f (k0_pay9 b)
  rw [e0]
  have e1 := fun g : FVec F S1024x2176 .f32 =>
    View.write_whole_slice_unit (Val := Elt F) cc0_scratch1 ![0, 128] S1024x2048.size inb_S1024x2176_S1024x2048_0_128 g (k0_pay10 x)
  refine (e1 _).trans (funext fun i => ?_)
  have i0 : (i 0).val < 1024 := (i 0).isLt
  have i1 : (i 1).val < 2176 := (i 1).isLt
  by_cases h : (i 1).val < 128
  · have hn : ¬ ∀ a, (![0, 128] : Fin 2 → ℕ) a ≤ (i a).val ∧ (i a).val < (![0, 128] : Fin 2 → ℕ) a + S1024x2048.size a := fun hh => by
      have := (hh 1).1
      have e : (![0, 128] : Fin 2 → ℕ) 1 = 128 := rfl
      omega
    have hy : ∀ a, (![0, 0] : Fin 2 → ℕ) a ≤ (i a).val ∧ (i a).val < (![0, 0] : Fin 2 → ℕ) a + S1024x128.size a := fun a => by
      match a with
      | ⟨0, _⟩ => exact ⟨Nat.zero_le _, by show (i 0).val < 0 + 1024; omega⟩
      | ⟨1, _⟩ => exact ⟨Nat.zero_le _, by show (i 1).val < 0 + 128; omega⟩
    refine (dif_neg hn).trans ((dif_pos hy).trans ?_)
    unfold poolOf
    rw [dif_pos h]
    refine congrArg (k0_pay9 b) (funext fun a => ?_)
    match a with
    | ⟨0, _⟩ => rfl
    | ⟨1, _⟩ => rfl
  · have hy : ∀ a, (![0, 128] : Fin 2 → ℕ) a ≤ (i a).val ∧ (i a).val < (![0, 128] : Fin 2 → ℕ) a + S1024x2048.size a := fun a => by
      match a with
      | ⟨0, _⟩ => exact ⟨Nat.zero_le _, by show (i 0).val < 0 + 1024; omega⟩
      | ⟨1, _⟩ => exact ⟨by show 128 ≤ (i 1).val; omega, by show (i 1).val < 128 + 2048; omega⟩
    refine (dif_pos hy).trans ?_
    unfold poolOf
    rw [dif_neg h]
    refine congrArg (k0_pay10 x) (funext fun a => ?_)
    match a with
    | ⟨0, _⟩ => rfl
    | ⟨1, _⟩ => rfl

section Run

variable (i : grid0.Coords) (arg1 : Memref sig .tc .vmem S1024x2048 .bf16) (harg1 : arg1.IsWhole) (arg2 : Memref sig .tc .vmem S1024x32 .f32) (harg2 : arg2.IsWhole)
  (harg3 : bM.IsWhole) (harg4 : pM.IsWhole) (harg5 : mM.IsWhole) (harg6 : gM.IsWhole) (arg7 arg8 : DmaSems sig S4) (c : Dev nD)

/-- The state of the selection loop before trip `k`. -/
def selInv (p : FVec F S1024x2176 .f32) (k : ℕ) (prev : FVec F S1024x1 .f32) : sProp 𝕄 :=
  iprop(⌜prev = (st1 p k).1⌝ ∗ own c cc0_scratch1 (st1 p k).2.1 ∗ own c cc0_scratch0 (st1 p k).2.2)

/-- One trip of the selection loop. -/
theorem sel_trip (p : FVec F S1024x2176 .f32) (k : Fin k0_t1_loop.trips) (prev : FVec F S1024x1 .f32) :
    selInv c p k.val prev ⊢ wp frame (wpE (defs₀ (F := F)) 𝒱₀ (c : Thread nD τ) none) Set.univ
      (k0_t1_body i arg1 harg1 arg2 harg2 bM harg3 pM harg4 mM harg5 gM harg6 arg7 arg8 k prev) (selInv c p (k.val + 1)) := by
  unfold k0_t1_body
  simp only [Prog.lift, Prog.bind_op, Prog.bind_ret, Prog.pure_eq_ret]
  unfold selInv
  iintro ⟨%hp, HP, HB⟩
  iapply (wp_load 𝒱₀ (c : Thread nD τ) none Set.univ (m := pM) (Finset.subset_univ _)) $$ HP; iintro HP
  iapply (wp_load 𝒱₀ (c : Thread nD τ) none Set.univ (m := pM) (Finset.subset_univ _)) $$ HP; iintro HP
  iapply (wp_load 𝒱₀ (c : Thread nD τ) none Set.univ (m := pM) (Finset.subset_univ _)) $$ HP; iintro HP
  iapply (wp_store 𝒱₀ (c : Thread nD τ) none Set.univ (m := pM) (r := rP) (Mk := Finset.univ) (Finset.subset_univ _)) $$ HP; iintro HP
  iapply (wp_load 𝒱₀ (c : Thread nD τ) none Set.univ (m := bM) (Finset.subset_univ _)) $$ HB; iintro HB
  iapply (wp_load 𝒱₀ (c : Thread nD τ) none Set.univ (m := bM) (Finset.subset_univ _)) $$ HB; iintro HB
  iapply (wp_store 𝒱₀ (c : Thread nD τ) none Set.univ (m := bM) (r := rB) (Mk := Finset.univ) (Finset.subset_univ _)) $$ HB; iintro HB
  rw [read_p, read_b, write_p, write_b, wp_ret, st1_succ, hp]; unfold step1; dsimp only; imodintro
  isplitr; · ipureintro; rfl
  isplitl [HP]; · iexact HP
  iexact HB

/-- The selection loop, from a pool and a list at -inf. -/
theorem sel_loop (p : FVec F S1024x2176 .f32) (hok) {β : Type} {kk : FVec F S1024x1 .f32 → Prog (TpuEff nD τ sig (Elt F) Λ₀ .tc) β} {Q : β → sProp 𝕄} :
    iprop(own c cc0_scratch1 p ∗ own c cc0_scratch0 (k0_pay11 (F := F)))
      ⊢ iprop((∀ v, (∃ p', own c cc0_scratch1 p') ∗ own c cc0_scratch0 (st1 p k0_t1_loop.trips).2.2 -∗
            wp frame (wpE (defs₀ (F := F)) 𝒱₀ (c : Thread nD τ) none) Set.univ (kk v) Q)
          -∗ wp frame (wpE (defs₀ (F := F)) 𝒱₀ (c : Thread nD τ) none) Set.univ
            (Scf.Loop.for k0_t1_loop hok (k0_pay12 (F := F)) (k0_t1_body i arg1 harg1 arg2 harg2 bM harg3 pM harg4 mM harg5 gM harg6 arg7 arg8) >>= kk) Q) := by
  iintro ⟨HP, HB⟩ HK
  iapply (Scf.wp_for_bind frame (wpE (defs₀ (F := F)) 𝒱₀ (c : Thread nD τ) none) Set.univ _ _ _ hok (k0_pay12 (F := F)) _ (selInv c p)
    (sel_trip i arg1 harg1 arg2 harg2 harg3 harg4 harg5 harg6 arg7 arg8 c p)) $$ [HP HB]
  · unfold selInv
    isplitr; · ipureintro; rfl
    isplitl [HP]; · iexact HP
    iexact HB
  iintro %v HI
  unfold selInv
  icases HI with ⟨-, HP, HB⟩
  iapply HK
  isplitl [HP]; · iexists _; iexact HP
  iexact HB

/-- The list and the gather buffer a grid point's selection starts from: at the first point both are filled with -inf. -/
def firstB (b : FVec F S1024x128 .f32) : FVec F S1024x128 .f32 := if (i 0).val = 0 then k0_pay7 else b
def firstG (g : FVec F S4x1024x32 .f32) : FVec F S4x1024x32 .f32 := if (i 0).val = 0 then k0_pay8 else g

theorem first_cond (h : (i 0).val = 0) :
    Scalar.cmpi .ne (Scalar.extui (Scalar.cmpi .eq (BitVec.ofNat 32 (i 0).val) 0#32)) 0#32 = 1#1 := by rw [h]; decide
theorem not_first_cond (h : (i 0).val ≠ 0) :
    ¬ Scalar.cmpi .ne (Scalar.extui (Scalar.cmpi .eq (BitVec.ofNat 32 (i 0).val) 0#32)) 0#32 = 1#1 := by
  have h4 : (i 0).val < 4 := (i 0).isLt
  generalize (i 0).val = n at h h4
  interval_cases n
  · exact absurd rfl h
  · decide
  · decide
  · decide

set_option maxRecDepth 4096 in
/-- The part of the body every point runs. -/
theorem part5_run (X : FVec F S1024x2048 .bf16) (fx : Buf (Elt F) (arg1.view.loc (c : Thread nD τ))) (hfx : arg1.view.read (Elt F) fx = X)
    (b0 : FVec F S1024x128 .f32) (p0 : FVec F S1024x2176 .f32) (g0 : FVec F S4x1024x32 .f32) (Q : _ → sProp 𝕄) :
    iprop((own c cc0_scratch0 b0 ∗ own c cc0_scratch1 p0 ∗ own c cc0_scratch3 g0 ∗ (arg1.view.loc (c : Thread nD τ) ↦[arg1.view.set]{fullShare} fx))
      ∗ (∀ r : (Σ' (arg0 : BitVec 32) (d0 : Dev nD) (v2 : BitVec 32) (v5 : BitVec 32), BitVec 32), ⌜r.2.1 = c⌝ ∗ own c cc0_scratch0 (st1 (poolOf (firstB i b0) X) k0_t1_loop.trips).2.2 ∗ (∃ p, own c cc0_scratch1 p) ∗ own c cc0_scratch3 (firstG i g0)
          ∗ (arg1.view.loc (c : Thread nD τ) ↦[arg1.view.set]{fullShare} fx) -∗ Q r))
      ⊢ wp frame (wpE (defs₀ (F := F)) 𝒱₀ (c : Thread nD τ) none) Set.univ
          (k0_part5 i arg1 harg1 arg2 harg2 bM harg3 pM harg4 mM harg5 gM harg6 arg7 arg8) Q := by
  rw [k0_part5_eq_skeleton]; unfold k0_part5_skel
  simp only [Prog.lift, Prog.bind_op, Prog.bind_ret, Prog.pure_eq_ret, wp_deviceId]
  iintro ⟨⟨HB, HP, HG, HX⟩, HK⟩
  rcases Decidable.em ((i 0).val = 0) with h | h
  on_goal 1 =>
    rw [dif_pos (first_cond i h), show firstB i b0 = k0_pay7 from if_pos h, show firstG i g0 = k0_pay8 from if_pos h]
    iapply (wp_load 𝒱₀ (c : Thread nD τ) none Set.univ (m := bM) (Finset.subset_univ _)) $$ HB; iintro HB
    iapply (wp_store 𝒱₀ (c : Thread nD τ) none Set.univ (m := bM) (r := rB) (Mk := Finset.univ) (Finset.subset_univ _)) $$ HB; iintro HB
    iapply (wp_load 𝒱₀ (c : Thread nD τ) none Set.univ (m := gM) (Finset.subset_univ _)) $$ HG; iintro HG
    iapply (wp_store 𝒱₀ (c : Thread nD τ) none Set.univ (m := gM) (r := rG) (Mk := Finset.univ) (Finset.subset_univ _)) $$ HG; iintro HG
    rw [write_b, write_g]
  on_goal 2 =>
    rw [dif_neg (not_first_cond i h), show firstB i b0 = b0 from if_neg h, show firstG i g0 = g0 from if_neg h]
  all_goals
    iapply (wp_load 𝒱₀ (c : Thread nD τ) none Set.univ (m := bM) (Finset.subset_univ _)) $$ HB; iintro HB
    iapply (wp_load 𝒱₀ (c : Thread nD τ) none Set.univ (m := pM) (Finset.subset_univ _)) $$ HP; iintro HP
    iapply (wp_store 𝒱₀ (c : Thread nD τ) none Set.univ (m := pM) (r := rP0) (Mk := Finset.univ) (Finset.subset_univ _)) $$ HP; iintro HP
    iapply (wp_load 𝒱₀ (c : Thread nD τ) none Set.univ (m := arg1) (View.setOn_subset_set _ _)) $$ HX; iintro HX
    iapply (wp_load 𝒱₀ (c : Thread nD τ) none Set.univ (m := pM) (Finset.subset_univ _)) $$ HP; iintro HP
    iapply (wp_store 𝒱₀ (c : Thread nD τ) none Set.univ (m := pM) (r := rP1) (Mk := Finset.univ) (Finset.subset_univ _)) $$ HP; iintro HP
    iapply (wp_load 𝒱₀ (c : Thread nD τ) none Set.univ (m := bM) (Finset.subset_univ _)) $$ HB; iintro HB
    iapply (wp_store 𝒱₀ (c : Thread nD τ) none Set.univ (m := bM) (r := rB) (Mk := Finset.univ) (Finset.subset_univ _)) $$ HB; iintro HB
    rw [read_b, View.readAt_full arg1.view, hfx, write_pool, write_b]
    iapply (sel_loop i arg1 harg1 arg2 harg2 harg3 harg4 harg5 harg6 arg7 arg8 c _ k0_t1_ok) $$ [HP HB]
    · isplitl [HP]; · iexact HP
      iexact HB
    iintro %v ⟨HP, HB⟩
    rw [wp_ret]; imodintro
    iapply HK
    isplitr; · ipureintro; rfl
    isplitl [HB]; · iexact HB
    isplitl [HP]; · iexact HP
    isplitl [HG]; · iexact HG
    iexact HX

end Run

end Cert.Merge

end
-- ==== Proof.Exchange.lean ====
/-
# 01_k — `Exchange`: the exchange of the lists at the last grid point
-/
module

public import proofs.«01_k».proof.Proof.Select

@[expose] public section

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and what every device knows of them -/

/-- A device's nine cells: its barrier, its four send cells, its four receive cells. -/
abbrev CK : Type := Unit ⊕ Fin 4 ⊕ Fin 4

def kcell (p : Dev nD × CK) : GSem nD τ sig := match p.2 with
  | .inl _ => barCell p.1
  | .inr (.inl j) => sendCell p.1 j
  | .inr (.inr j) => recvCell p.1 j

/-- Every cell's invariant, and that every cell has reached round 0. -/
def records (K : Dev nD × CK → ℕ) : sProp 𝕄 :=
  iprop((bigSep Finset.univ fun p : Dev nD × CK => cellInv ER (Rd (F := F) m) (K p) (kcell p))
    ∗ bigSep Finset.univ fun p : Dev nD × CK => reached ER (kcell p) 0)

instance records_persistent (K : Dev nD × CK → ℕ) : BI.Persistent (records (F := F) m K) := by unfold records; infer_instance

variable (K : Dev nD × CK → ℕ)

theorem records_inv (p : Dev nD × CK) : (records (F := F) m K : sProp 𝕄) ⊢ cellInv ER (Rd (F := F) m) (K p) (kcell p) := by
  unfold records
  refine (show _ ⊢ (bigSep Finset.univ fun p : Dev nD × CK => (cellInv ER (Rd (F := F) m) (K p) (kcell p) : sProp 𝕄)) from ?_).trans (bigSep_elim (Finset.mem_univ p))
  iintro ⟨H, -⟩
  iexact H
theorem records_reached (p : Dev nD × CK) : (records (F := F) m K : sProp 𝕄) ⊢ reached ER (kcell p) 0 := by
  unfold records
  refine (show _ ⊢ (bigSep Finset.univ fun p : Dev nD × CK => (reached ER (kcell p) 0 : sProp 𝕄)) from ?_).trans (bigSep_elim (Finset.mem_univ p))
  iintro ⟨-, H⟩
  iexact H

theorem inv_bar (c : Dev nD) : (records (F := F) m K : sProp 𝕄) ⊢ cellInv ER (Rd (F := F) m) (K (c, .inl ())) (barCell c) := records_inv m K (c, .inl ())
theorem inv_send (c : Dev nD) (j : Fin 4) : (records (F := F) m K : sProp 𝕄) ⊢ cellInv ER (Rd (F := F) m) (K (c, .inr (.inl j))) (sendCell c j) := records_inv m K (c, .inr (.inl j))
theorem inv_recv (c : Dev nD) (j : Fin 4) : (records (F := F) m K : sProp 𝕄) ⊢ cellInv ER (Rd (F := F) m) (K (c, .inr (.inr j))) (recvCell c j) := records_inv m K (c, .inr (.inr j))
theorem reached_bar (c : Dev nD) : (records (F := F) m K : sProp 𝕄) ⊢ reached ER (barCell c) 0 := records_reached m K (c, .inl ())
theorem reached_send (c : Dev nD) (j : Fin 4) : (records (F := F) m K : sProp 𝕄) ⊢ reached ER (sendCell c j) 0 := records_reached m K (c, .inr (.inl j))
theorem reached_recv (c : Dev nD) (j : Fin 4) : (records (F := F) m K : sProp 𝕄) ⊢ reached ER (recvCell c j) 0 := records_reached m K (c, .inr (.inr j))

/-! ## Splits -/

/-- Four places on the ring, seen from one of them. -/
theorem split4 (y : Fin 4) (Φ : Fin 4 → sProp 𝕄) : bigSep Finset.univ Φ = iprop(Φ y ∗ Φ (aft y 0) ∗ Φ (aft y 1) ∗ Φ (aft y 2)) := by
  rw [bigSep_univ_eq_bigSepL [y, aft y 0, aft y 1, aft y 2] (by revert y; decide) (by revert y; decide), bigSepL_cons_cons, bigSepL_cons_cons, bigSepL_cons_cons,
    bigSepL_singleton]
  rfl

theorem gather_split (c : Dev nD) (f : FVec F S4x1024x32 .f32) :
    (own c cc0_scratch3 f : sProp 𝕄) = iprop(slotPts c (yk c) f ∗ slotPts c (aft (yk c) 0) f ∗ slotPts c (aft (yk c) 1) f ∗ slotPts c (aft (yk c) 2) f) :=
  (gather_slots c f).trans (split4 (yk c) fun j => slotPts c j f)

/-- A device's own slot holds what the buffer was filled with. -/
theorem own_slot (c : Dev nD) : (slotPts c (yk c) (k0_pay8 (F := F)) : sProp 𝕄) = slotPts c (yk c) (gath m c) :=
  slotPts_congr c (yk c) (k0_pay8 (F := F)) (gath m c) fun a b => by unfold gath; exact (if_pos rfl).symm

omit [FloatOps F] in
/-- A buffer held whole is three shares of it. -/
theorem thirds {ℓ : Loc nD τ sig} (f : Buf (Elt F) ℓ) :
    (ℓ ↦{fullShare} f : sProp 𝕄) ⊣⊢ iprop((ℓ ↦{Ring.shares3 fullShare 0} f) ∗ (ℓ ↦{Ring.shares3 fullShare 1} f) ∗ ℓ ↦{Ring.shares3 fullShare 2} f) :=
  Ring.pointsTo_thirds fullShare f

theorem minePts_eq (c : Dev nD) (j : Fin 3) : (minePts m c j : sProp 𝕄) = (((c : Thread nD τ).loc cc0_scratch2) ↦{Ring.shares3 fullShare j} mine m c) := by
  unfold minePts
  exact congrArg (fun I => (((c : Thread nD τ).loc cc0_scratch2) ↦[I]{Ring.shares3 fullShare j} mine m c : sProp 𝕄)) (View.set_whole cc0_scratch2)

theorem mine_split (c : Dev nD) : (own c cc0_scratch2 (mine m c) : sProp 𝕄) ⊣⊢ iprop(minePts m c 0 ∗ minePts m c 1 ∗ minePts m c 2) := by
  rw [minePts_eq, minePts_eq, minePts_eq]
  exact thirds (ℓ := (c : Thread nD τ).loc cc0_scratch2) (mine m c)

omit [FloatOps F] in
theorem credit_gm : sig.dmaCredit Kind.tc (Kind.tc.table Space.vmem) gM.view.buf S1024x32 EltTy.f32
    = sig.dmaCredit Kind.tc (Kind.tc.table Space.vmem) mM.view.buf S1024x32 EltTy.f32 := by decide +kernel

theorem slot_credit (j : Fin 4) : (slotM j).view.dmaCredit = N :=
  View.dmaCredit_closed (slotM j).view S1024x32 rfl gM.view.buf rfl N credit_gm

/-- The load of the list's first 32 columns. -/
theorem read_head (b : FVec F S1024x128 .f32) :
    bM.view.readAt (Elt F) (Rect.unit (s := S1024x128) ![0, 0] S1024x32.size inb_S1024x128_S1024x32_0_0).toLoadRect b = head32 b := by
  funext i
  refine congrArg b (funext fun a => Fin.ext ?_)
  match a with
  | ⟨0, _⟩ => show 0 + 1 * (i 0).val = (i 0).val; omega
  | ⟨1, _⟩ => show 0 + 1 * (i 1).val = (i 1).val; omega

/-! ## The steps of the exchange -/

section Steps

/-- A signal to the peer `δ + 1` steps on hands it that peer's slot of the device's gather buffer. -/
theorem signal_step {α : Type} {Q : α → sProp 𝕄} {k : PUnit → Prog (TpuEff nD τ sig (Elt F) Λ₀ .tc) α}
    (c n : Dev nD) (δ : Fin 3) (hn : n = pk c δ) (k' : ℤ) (hk : k' = ((1 : ℕ) : ℤ)) (f : FVec F S4x1024x32 .f32) (O : CellTallies nD τ sig Unit) (W : Waits sig Unit) :
    iprop(records m K ∗ owes (c : Thread nD τ) (O + tallyAt (barCell (pk c δ)) () 1) W ∗ dutyTok ER (barCell (pk c δ)) 0 δ ∗ slotPts c (aft (yk c) δ) f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn; subst hk
  iintro ⟨#HR, HO, Ht, Hs⟩ HK
  iapply (Rounds.wp_signal 𝒱₀ ER (Rd (F := F) m) (c : Thread nD τ) none (dst := (pk c δ : Thread nD τ)) (κ := K (pk c δ, .inl ())) (d := δ)
    (by rw [duties_bar]; exact Finset.mem_univ _) (amount_bar m (pk c δ) δ) () O rfl) $$ [HO Ht Hs]
  · isplitr; · iapply (inv_bar m K (pk c δ)); iexact HR
    isplitl [HO]; · iexact HO
    isplitl [Ht]; · iexact Ht
    isplitl [Hs]
    · rw [payload_bar]; unfold barPay; rw [pk_rev, yk_pk]
      isplitl [Hs]; · iexists f; iexact Hs
      iapply (reached_recv m K c (aft (yk c) δ)); iexact HR
    · iapply (reached_bar m K (pk c δ)); iexact HR
  iexact HK

/-- The transfer of the device's list to the peer `δ + 1` steps on, into the slot the peer has handed over. -/
theorem send_step {α : Type} {Q : α → sProp 𝕄} {k : PUnit → Prog (TpuEff nD τ sig (Elt F) Λ₀ .tc) α}
    (c n : Dev nD) (δ : Fin 3) (hn : n = pk c δ) (D : Memref sig .tc .vmem S1024x32 .f32) (hD : D = slotM (yk c)) (sS sR : DmaSem sig)
    (hS : sS = sendS δ.castSucc) (hR : sR = recvS (yk c))
    {hsc : (D : Memref sig (Dev.tc n : Thread nD τ).2.kind .vmem S1024x32 .f32).view.ref.isScScratch = false}
    {hsrc : (mM : Memref sig .tc .vmem S1024x32 .f32).view.WordExact} {hdst : D.view.WordExact}
    {hsem : DmaTarget.Typed .vmem (.dma sR) (.remote (Dev.tc n : Thread nD τ) D (.dma sS) hsc)}
    (fn : FVec F S4x1024x32 .f32) (O : CellTallies nD τ sig Unit) (W : Waits sig Unit) :
    iprop(records m K ∗ minePts m c δ ∗ slotPts (pk c δ) (yk c) fn ∗ owes (c : Thread nD τ) (O + tallyAt (recvCell (pk c δ) (yk c)) () N) W
        ∗ dutyTok ER (sendCell c δ.castSucc) 0 0 ∗ dutyTok ER (recvCell (pk c δ) (yk c)) 0 0)
      ⊢ iprop(((cred (tallyAt (sendCell c δ.castSucc) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) D (.dma sS) hsc) (.dma sR) hsrc hdst hsem) k) Q) := by
  subst hn; subst hD; subst hS; subst hR
  iintro ⟨#HR, Hm, Hs, HO, Ht, Ht'⟩ HK
  unfold minePts slotPts
  iapply (Rounds.wp_send_pointsTo 𝒱₀ ER (Rd (F := F) m) (c : Thread nD τ) none (κ₁ := K (c, .inr (.inl δ.castSucc))) (κ₂ := K (pk c δ, .inr (.inr (yk c))))
    (r₁ := 0) (r₂ := 0) (d₁ := 0) (d₂ := 0) (fd := fn)
    (by rw [duties_send]; exact Finset.mem_singleton_self _) (by rw [duties_recv m (pk c δ) (yk c) (yk_pk_ne c δ)]; exact Finset.mem_singleton_self _)
    () () N (by exact slot_credit (yk c)) (amount_send m c δ.castSucc 0) (amount_recv m (pk c δ) (yk c) 0) O rfl (W := W)
    (by rw [payload_send]; exact BI.Entails.refl _)
    (by rw [payload_recv]; exact Entails.of_eq (landed_slot m c δ fn))) $$ [Hm Hs HO Ht Ht']
  · isplitr; · iapply (inv_send m K c δ.castSucc); iexact HR
    isplitr; · iapply (inv_recv m K (pk c δ) (yk c)); iexact HR
    isplitl [Hm]; · iexact Hm
    isplitl [Hs]; · iexact Hs
    isplitl [HO]; · iexact HO
    isplitl [Ht]; · iexact Ht
    isplitr; · iapply (reached_send m K c δ.castSucc); iexact HR
    isplitl [Ht']; · iexact Ht'
    iapply (reached_recv m K (pk c δ) (yk c)); iexact HR
  iexact HK

/-- The wait for a transfer's departure: its share of the list is back. -/
theorem waitS_step {α : Type} {Q : α → sProp 𝕄} {k : PUnit → Prog (TpuEff nD τ sig (Elt F) Λ₀ .tc) α}
    (c : Dev nD) (δ : Fin 3) (sS : DmaSem sig) (hS : sS = sendS δ.castSucc)
    {S D : Memref sig .tc .vmem S1024x32 .f32} (hD : D = mM) {hsrc : S.view.WordExact} {hdst : D.view.WordExact} (W : Waits sig Unit) :
    iprop(records m K ∗ cred (tallyAt (sendCell c δ.castSucc) () N) ∗ owes (c : Thread nD τ) 0 W ∗ atPos ER (sendCell c δ.castSucc) 0 ∅ 0)
      ⊢ iprop(((∃ W', owes (c : Thread nD τ) 0 W') ∗ atPos ER (sendCell c δ.castSucc) (0 + 1) ∅ 0 ∗ minePts m c δ -∗
            wp frame (wpE (defs₀ (F := F)) 𝒱₀ (c : Thread nD τ) none) Set.univ (k ⟨⟩) Q)
          -∗ wp frame (wpE (defs₀ (F := F)) 𝒱₀ (c : Thread nD τ) none) Set.univ (.op (.waitDma2 sS S D hsrc hdst) k) Q) := by
  subst hS; subst hD
  iintro ⟨#HR, Hc, HO, Ha⟩ HK
  iapply (Rounds.wp_wait_rest_token 𝒱₀ ER (Rd (F := F) m) (c : Thread nD τ) none (κ := K (c, .inr (.inl δ.castSucc)))
    (wpE_waitDma2_eq 𝒱₀ (c : Thread nD τ) none Set.univ) (Set.mem_univ _) () (O := 0) (W := W) (R := 0) (m := 0) (T := ∅)
    (by rw [Nat.zero_add, expect_send])) $$ [Hc HO Ha]
  · isplitr; · iapply (inv_send m K c δ.castSucc); iexact HR
    isplitl [Hc]; · iexact Hc
    isplitl [HO]; · iexact HO
    isplitr; · rw [MayWait_zero]; iempintro
    iexact Ha
  iintro ⟨HO, Ha, -, Hp⟩
  iapply HK
  isplitl [HO]; · iexists _; iexact HO
  isplitl [Ha]; · iexact Ha
  ihave Hp' := (Entails.of_eq (rest_send m c δ)) $$ Hp
  unfold sendPay
  iexact Hp'

/-- The wait for a peer's list: the slot holding it. -/
theorem waitR_step {α : Type} {Q : α → sProp 𝕄} {k : PUnit → Prog (TpuEff nD τ sig (Elt F) Λ₀ .tc) α}
    (c : Dev nD) (δ : Fin 3) (sR : DmaSem sig) (hR : sR = recvS (aft (yk c) δ))
    {S D : Memref sig .tc .vmem S1024x32 .f32} (hD : D.view.dmaCredit = N) {hsrc : S.view.WordExact} {hdst : D.view.WordExact} (W : Waits sig Unit) :
    iprop(records m K ∗ cred (tallyAt (recvCell c (aft (yk c) δ)) () N) ∗ owes (c : Thread nD τ) 0 W ∗ atPos ER (recvCell c (aft (yk c) δ)) 0 ∅ 0)
      ⊢ iprop(((∃ W', owes (c : Thread nD τ) 0 W') ∗ atPos ER (recvCell c (aft (yk c) δ)) (0 + 1) ∅ 0 ∗ slotPts c (aft (yk c) δ) (gath m c) -∗
            wp frame (wpE (defs₀ (F := F)) 𝒱₀ (c : Thread nD τ) none) Set.univ (k ⟨⟩) Q)
          -∗ wp frame (wpE (defs₀ (F := F)) 𝒱₀ (c : Thread nD τ) none) Set.univ (.op (.waitDma2 sR S D hsrc hdst) k) Q) := by
  subst hR
  have hne : aft (yk c) δ ≠ yk c := by rw [← yk_pk]; exact yk_pk_ne' c δ
  iintro ⟨#HR, Hc, HO, Ha⟩ HK
  iapply (Rounds.wp_wait_rest_token 𝒱₀ ER (Rd (F := F) m) (c : Thread nD τ) none (κ := K (c, .inr (.inr (aft (yk c) δ))))
    (k' := D.view.dmaCredit)
    (wpE_waitDma2_eq 𝒱₀ (c : Thread nD τ) none Set.univ) (Set.mem_univ _) () (O := 0) (W := W) (R := 0) (m := 0) (T := ∅)
    (by rw [Nat.zero_add, expect_recv m c _ hne, hD])) $$ [Hc HO Ha]
  · isplitr; · iapply (inv_recv m K c (aft (yk c) δ)); iexact HR
    isplitl [Hc]; · rw [hD]; iexact Hc
    isplitl [HO]; · iexact HO
    isplitr; · rw [MayWait_zero]; iempintro
    iexact Ha
  iintro ⟨HO, Ha, -, Hp⟩
  iapply HK
  isplitl [HO]; · iexists _; iexact HO
  isplitl [Ha]; · iexact Ha
  ihave Hp' := (Entails.of_eq (rest_recv m c (aft (yk c) δ) hne)) $$ Hp
  unfold recvPay
  iexact Hp'

/-- The wait for the three signals: the three peers' slots for this device's list. -/
theorem waitB_step {α : Type} {Q : α → sProp 𝕄} {k : PUnit → Prog (TpuEff nD τ sig (Elt F) Λ₀ .tc) α}
    (c : Dev nD) (k' : ℤ) (hk : k' = ((3 : ℕ) : ℤ)) (W : Waits sig Unit) :
    iprop(records m K ∗ levAts L lv ∗ cred (tallyAt (barCell c) () 3) ∗ owes (c : Thread nD τ) (OR c) W ∗ atPos ER (barCell c) 0 ∅ 0)
      ⊢ iprop(((∃ W', owes (c : Thread nD τ) (OR c) W') ∗ atPos ER (barCell c) (0 + 1) ∅ 0
            ∗ (∃ f, slotPts (pk c 2) (yk c) f) ∗ (∃ f, slotPts (pk c 1) (yk c) f) ∗ (∃ f, slotPts (pk c 0) (yk c) f) -∗
            wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#HR, #Hlev, Hc, HO, Ha⟩ HK
  iapply (Rounds.wp_wait_rest_token 𝒱₀ ER (Rd (F := F) m) (c : Thread nD τ) none (κ := K (c, .inl ()))
    (wpE_semWait_eq 𝒱₀ (c : Thread nD τ) none Set.univ) (Set.mem_univ _) () (O := OR c) (W := W) (R := 0) (m := 0) (T := ∅)
    (by rw [Nat.zero_add, expect_bar])) $$ [Hc HO Ha]
  · isplitr; · iapply (inv_bar m K c); iexact HR
    isplitl [Hc]; · iexact Hc
    isplitl [HO]; · iexact HO
    isplitr; · iapply (mayWait_bar c); iexact Hlev
    iexact Ha
  iintro ⟨HO, Ha, -, Hp⟩
  ihave Hp' := (Entails.of_eq (rest_bar m c)) $$ Hp
  unfold barPay
  icases Hp' with ⟨⟨H0, -⟩, ⟨H1, -⟩, ⟨H2, -⟩⟩
  iapply HK
  isplitl [HO]; · iexists _; iexact HO
  isplitl [Ha]; · iexact Ha
  isplitl [H0]; · iexact H0
  isplitl [H1]; · iexact H1
  iexact H2

end Steps

end Cert.Merge

end
-- ==== Proof.Last.lean ====
/-
# 01_k — `Last`: the last grid point: the exchange of the lists and their merging
-/
module

public import proofs.«01_k».proof.Proof.Exchange

@[expose] public section

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The program's semaphores and slots -/

theorem sem_inb (j : Fin 4) : ∀ a, (![j.val] : Fin 1 → ℕ) a + S1.size a ≤ S4.size a := by revert j; decide

theorem recv_at (j : Fin 4) (h) : ((cc0_scratch5.slice (Rect.unit (s := S4) ![j.val] S1.size h)).squeeze S_ squeezes_S1_S_).sem = recvS j := by
  revert h; revert j; decide
theorem recv_of (j : Fin 4) (off : Fin 1 → ℕ) (e : off = ![j.val]) (h) :
    ((cc0_scratch5.slice (Rect.unit (s := S4) off S1.size h)).squeeze S_ squeezes_S1_S_).sem = recvS j := by
  subst e; exact recv_at j h
theorem send_at (j : Fin 4) (h) : ((cc0_scratch4.slice (Rect.unit (s := S4) ![j.val] S1.size h)).squeeze S_ squeezes_S1_S_).sem = sendS j := by
  revert h; revert j; decide
theorem slot_of (j : Fin 4) (off : Fin 3 → ℕ) (e : off = ![j.val, 0, 0]) (h) :
    (gM.slice (Rect.unit (s := S4x1024x32) off S1x1024x32.size h) (fun _ => rfl)).squeeze S1024x32 squeezes_S1x1024x32_S1024x32 = slotM j := by
  subst e; rfl

theorem slotC_of (j : Fin 4) (off : Fin 3 → ℕ) (e : off = ![j.val, 0, 0]) (h) :
    ((gM.slice (Rect.unit (s := S4x1024x32) off S1x1024x32.size h) (fun _ => rfl)).squeeze S1024x32 squeezes_S1x1024x32_S1024x32).view.dmaCredit = N := by
  subst e; exact slot_credit j

theorem off1_at (c : Dev nD) : k0_off1 c = ![(yk c).val] := k0_off1_eq c
theorem off2_at (c : Dev nD) : k0_off2 c = ![(yk c).val, 0, 0] := k0_off2_eq c
theorem off3_at (c : Dev nD) (r : Fin 3) : k0_off3 c (BitVec.ofNat 32 (1 + r.val)) = ![(aft (yk c) r).val] :=
  (k0_off3_eq c r).trans (by show ![_] = ![_]; rw [Nat.add_assoc]; rfl)
theorem off4_at (c : Dev nD) (r : Fin 3) : k0_off4 c (BitVec.ofNat 32 (1 + r.val)) = ![(aft (yk c) r).val, 0, 0] :=
  (k0_off4_eq c r).trans (by show ![_, 0, 0] = ![_, 0, 0]; rw [Nat.add_assoc]; rfl)

/-! ## The exchange -/

/-- The tokens a device pays its peers' cells and its own send cells with. -/
def payToks (c : Dev nD) : sProp 𝕄 :=
  iprop((dutyTok ER (barCell (pk c 0)) 0 0 ∗ dutyTok ER (barCell (pk c 1)) 0 1 ∗ dutyTok ER (barCell (pk c 2)) 0 2)
    ∗ (dutyTok ER (recvCell (pk c 0) (yk c)) 0 0 ∗ dutyTok ER (recvCell (pk c 1) (yk c)) 0 0 ∗ dutyTok ER (recvCell (pk c 2) (yk c)) 0 0)
    ∗ (dutyTok ER (sendCell c 0) 0 0 ∗ dutyTok ER (sendCell c 1) 0 0 ∗ dutyTok ER (sendCell c 2) 0 0))

/-- A device's positions in its cells it waits on. -/
def usedPos (c : Dev nD) (r : ℕ) : sProp 𝕄 :=
  iprop(atPos ER (barCell c) r ∅ 0
    ∗ (atPos ER (sendCell c 0) r ∅ 0 ∗ atPos ER (sendCell c 1) r ∅ 0 ∗ atPos ER (sendCell c 2) r ∅ 0)
    ∗ (atPos ER (recvCell c (aft (yk c) 0)) r ∅ 0 ∗ atPos ER (recvCell c (aft (yk c) 1)) r ∅ 0 ∗ atPos ER (recvCell c (aft (yk c) 2)) r ∅ 0))

/-- The credit a device starts with. -/
def startCred (c : Dev nD) : sProp 𝕄 :=
  iprop(cred (tallyAt (barCell c) () 3) ∗ cred (tallyAt (recvCell c (aft (yk c) 0)) () N)
    ∗ cred (tallyAt (recvCell c (aft (yk c) 1)) () N) ∗ cred (tallyAt (recvCell c (aft (yk c) 2)) () N))

section Run

variable (K : Dev nD × CK → ℕ)
variable (i : grid0.Coords) (arg1 : Memref sig .tc .vmem S1024x2048 .bf16) (harg1 : arg1.IsWhole) (harg2 : oM.IsWhole)
  (harg3 : bM.IsWhole) (harg4 : pM.IsWhole) (harg5 : mM.IsWhole) (harg6 : gM.IsWhole) (c : Dev nD) (v2 v5 v8 : BitVec 32) (h2 : k0_cond2 i = 1#1)

set_option maxRecDepth 8192 in
set_option maxHeartbeats 1600000 in
/-- The last point's exchange: the device's list sent to its three peers, theirs received. -/
theorem part4_run (hb : mine m c = k0_pay5 (head32 (bestAt m c 4))) (W : Waits sig Unit) (f : FVec F S1024x32 .f32) (d : FVec F S1024x32 .f32) (Q : _ → sProp 𝕄) :
    iprop((records m K ∗ levAts L lv ∗ payToks c ∗ usedPos c 0 ∗ startCred c ∗ owes (c : Thread nD τ) (O₀ c) W
        ∗ own c cc0_scratch0 (bestAt m c 4) ∗ own c cc0_scratch2 f ∗ own c cc0_scratch3 (k0_pay8 (F := F)) ∗ own c cc0_stg1_0 d)
      ∗ (∀ r : (Σ' (v154 : IVec S1024x32 32) (c0_i32_111 : BitVec 32), BitVec 32), ⌜r = ⟨iota .tc S1024x32 32 [1] iota_S1024x32_d1_w32, 0#32, 1#32⟩⌝
          ∗ (∃ W', owes (c : Thread nD τ) 0 W') ∗ usedPos c (0 + 1)
          ∗ own c cc0_scratch0 (bestAt m c 4) ∗ own c cc0_scratch2 (mine m c) ∗ own c cc0_scratch3 (gath m c) ∗ own c cc0_stg1_0 (k0_pay6 (F := F)) -∗ Q r))
      ⊢ wp frame (wpE (defs₀ (F := F)) 𝒱₀ (c : Thread nD τ) none) Set.univ
          (k0_part4 i arg1 harg1 oM harg2 bM harg3 pM harg4 mM harg5 gM harg6 cc0_scratch4 cc0_scratch5 c v2 v5 v8 h2) Q := by
  rw [k0_part4_eq_skeleton]; unfold k0_part4_skel
  rw [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret]
  unfold payToks usedPos startCred
  iintro ⟨⟨#HR, #Hlev, ⟨⟨HtB0, HtB1, HtB2⟩, ⟨HtV0, HtV1, HtV2⟩, ⟨HtS0, HtS1, HtS2⟩⟩, ⟨HaB, ⟨HaS0, HaS1, HaS2⟩, ⟨HaV0, HaV1, HaV2⟩⟩,
    ⟨HcB, HcV0, HcV1, HcV2⟩, HO, HB, HM, HG, HD⟩, HK⟩
  iapply (wp_load 𝒱₀ (c : Thread nD τ) none Set.univ (m := bM) (Finset.subset_univ _)) $$ HB; iintro HB
  iapply (wp_load 𝒱₀ (c : Thread nD τ) none Set.univ (m := mM) (Finset.subset_univ _)) $$ HM; iintro HM
  iapply (wp_store 𝒱₀ (c : Thread nD τ) none Set.univ (m := mM) (r := rO) (Mk := Finset.univ) (Finset.subset_univ _)) $$ HM; iintro HM
  rw [read_head, write_m, ← hb]
  ihave HM' := (mine_split m c).1 $$ HM
  icases HM' with ⟨HM0, HM1, HM2⟩
  ihave HG' := (Entails.of_eq (gather_split c (k0_pay8 (F := F)))) $$ HG
  icases HG' with ⟨HG, HG0, HG1, HG2⟩
  unfold O₀
  -- the three signals, each with a slot of the gather buffer
  iapply (signal_step m K c _ 0 (dev1_eq c _) _ (by decide) (k0_pay8 (F := F)) (OR c + tallyAt (barCell (pk c 2)) () 1 + tallyAt (barCell (pk c 1)) () 1) W) $$ [HO HtB0 HG0]
  · isplitr; · iexact HR
    isplitl [HO]; · iexact HO
    isplitl [HtB0]; · iexact HtB0
    iexact HG0
  iintro HO
  iapply (signal_step m K c _ 1 (dev2_eq c _) _ (by decide) (k0_pay8 (F := F)) (OR c + tallyAt (barCell (pk c 2)) () 1) W) $$ [HO HtB1 HG1]
  · isplitr; · iexact HR
    isplitl [HO]; · iexact HO
    isplitl [HtB1]; · iexact HtB1
    iexact HG1
  iintro HO
  iapply (signal_step m K c _ 2 (dev3_eq c _) _ (by decide) (k0_pay8 (F := F)) (OR c) W) $$ [HO HtB2 HG2]
  · isplitr; · iexact HR
    isplitl [HO]; · iexact HO
    isplitl [HtB2]; · iexact HtB2
    iexact HG2
  iintro HO
  -- the wait for the peers' signals
  iapply (waitB_step m K c _ (by decide) W) $$ [HcB HO HaB]
  · isplitr; · iexact HR
    isplitr; · iexact Hlev
    isplitl [HcB]; · iexact HcB
    isplitl [HO]; · iexact HO
    iexact HaB
  iintro ⟨⟨%W1, HO⟩, HaB, ⟨%f2, HP2⟩, ⟨%f1, HP1⟩, ⟨%f0, HP0⟩⟩
  unfold OR
  -- the three transfers
  iapply (send_step m K c _ 0 (dev4_eq c _) _ (slot_of (yk c) _ (off2_at c) _) _ _ (send_at 0 _) (recv_of (yk c) _ (off1_at c) _) f0
    (0 + tallyAt (recvCell (pk c 2) (yk c)) () N + tallyAt (recvCell (pk c 1) (yk c)) () N) W1) $$ [HM0 HP0 HO HtS0 HtV0]
  · isplitr; · iexact HR
    isplitl [HM0]; · iexact HM0
    isplitl [HP0]; · iexact HP0
    isplitl [HO]; · iexact HO
    isplitl [HtS0]; · iexact HtS0
    iexact HtV0
  iintro ⟨HcS0, HO⟩
  iapply (send_step m K c _ 1 (dev5_eq c _) _ (slot_of (yk c) _ (off2_at c) _) _ _ (send_at 1 _) (recv_of (yk c) _ (off1_at c) _) f1
    (0 + tallyAt (recvCell (pk c 2) (yk c)) () N) W1) $$ [HM1 HP1 HO HtS1 HtV1]
  · isplitr; · iexact HR
    isplitl [HM1]; · iexact HM1
    isplitl [HP1]; · iexact HP1
    isplitl [HO]; · iexact HO
    isplitl [HtS1]; · iexact HtS1
    iexact HtV1
  iintro ⟨HcS1, HO⟩
  iapply (send_step m K c _ 2 (dev6_eq c _) _ (slot_of (yk c) _ (off2_at c) _) _ _ (send_at 2 _) (recv_of (yk c) _ (off1_at c) _) f2 0 W1) $$ [HM2 HP2 HO HtS2 HtV2]
  · isplitr; · iexact HR
    isplitl [HM2]; · iexact HM2
    isplitl [HP2]; · iexact HP2
    isplitl [HO]; · iexact HO
    isplitl [HtS2]; · iexact HtS2
    iexact HtV2
  iintro ⟨HcS2, HO⟩
  -- the waits for their departures
  iapply (waitS_step m K c 0 _ (send_at 0 _) rfl W1) $$ [HcS0 HO HaS0]
  · isplitr; · iexact HR
    isplitl [HcS0]; · iexact HcS0
    isplitl [HO]; · iexact HO
    iexact HaS0
  iintro ⟨⟨%W2, HO⟩, HaS0, HM0⟩
  iapply (waitS_step m K c 1 _ (send_at 1 _) rfl W2) $$ [HcS1 HO HaS1]
  · isplitr; · iexact HR
    isplitl [HcS1]; · iexact HcS1
    isplitl [HO]; · iexact HO
    iexact HaS1
  iintro ⟨⟨%W3, HO⟩, HaS1, HM1⟩
  iapply (waitS_step m K c 2 _ (send_at 2 _) rfl W3) $$ [HcS2 HO HaS2]
  · isplitr; · iexact HR
    isplitl [HcS2]; · iexact HcS2
    isplitl [HO]; · iexact HO
    iexact HaS2
  iintro ⟨⟨%W4, HO⟩, HaS2, HM2⟩
  -- the waits for the peers' lists
  iapply (waitR_step m K c 0 _ (recv_of (aft (yk c) 0) _ (off3_at c 0) _) (by exact slotC_of (aft (yk c) 0) _ (off4_at c 0) _) W4) $$ [HcV0 HO HaV0]
  · isplitr; · iexact HR
    isplitl [HcV0]; · iexact HcV0
    isplitl [HO]; · iexact HO
    iexact HaV0
  iintro ⟨⟨%W5, HO⟩, HaV0, HG0⟩
  iapply (waitR_step m K c 1 _ (recv_of (aft (yk c) 1) _ (off3_at c 1) _) (by exact slotC_of (aft (yk c) 1) _ (off4_at c 1) _) W5) $$ [HcV1 HO HaV1]
  · isplitr; · iexact HR
    isplitl [HcV1]; · iexact HcV1
    isplitl [HO]; · iexact HO
    iexact HaV1
  iintro ⟨⟨%W6, HO⟩, HaV1, HG1⟩
  iapply (waitR_step m K c 2 _ (recv_of (aft (yk c) 2) _ (off3_at c 2) _) (by exact slotC_of (aft (yk c) 2) _ (off4_at c 2) _) W6) $$ [HcV2 HO HaV2]
  · isplitr; · iexact HR
    isplitl [HcV2]; · iexact HcV2
    isplitl [HO]; · iexact HO
    iexact HaV2
  iintro ⟨⟨%W7, HO⟩, HaV2, HG2⟩
  iapply (wp_load 𝒱₀ (c : Thread nD τ) none Set.univ (m := oM) (Finset.subset_univ _)) $$ HD; iintro HD
  iapply (wp_store 𝒱₀ (c : Thread nD τ) none Set.univ (m := oM) (r := rO) (Mk := Finset.univ) (Finset.subset_univ _)) $$ HD; iintro HD
  rw [write_o, wp_ret]; imodintro
  ihave HG' := (Entails.of_eq (own_slot m c)) $$ HG
  iapply HK
  isplitr; · ipureintro; rfl
  isplitl [HO]; · iexists W7; iexact HO
  isplitl [HaB HaS0 HaS1 HaS2 HaV0 HaV1 HaV2]
  · isplitl [HaB]; · iexact HaB
    isplitl [HaS0 HaS1 HaS2]
    · isplitl [HaS0]; · iexact HaS0
      isplitl [HaS1]; · iexact HaS1
      iexact HaS2
    isplitl [HaV0]; · iexact HaV0
    isplitl [HaV1]; · iexact HaV1
    iexact HaV2
  isplitl [HB]; · iexact HB
  isplitl [HM0 HM1 HM2]
  · iapply (mine_split m c).2
    isplitl [HM0]; · iexact HM0
    isplitl [HM1]; · iexact HM1
    iexact HM2
  isplitl [HG' HG0 HG1 HG2]
  · iapply (Entails.of_eq (gather_split c (gath m c)).symm)
    isplitl [HG']; · iexact HG'
    isplitl [HG0]; · iexact HG0
    isplitl [HG1]; · iexact HG1
    iexact HG2
  iexact HD

/-! ## The merging loop -/

/-- The state of the merging loop before trip `k`. -/
def mrgInv (k : ℕ) (_ : PUnit) : sProp 𝕄 :=
  iprop(own c cc0_stg1_0 (st2 m c k).1 ∗ own c cc0_scratch3 (st2 m c k).2.1 ∗ own c cc0_scratch2 (st2 m c k).2.2)

/-- One trip of the merging loop. -/
theorem mrg_trip (k : Fin k0_t2_loop.trips) (u : PUnit) :
    mrgInv m c k.val u ⊢ wp frame (wpE (defs₀ (F := F)) 𝒱₀ (c : Thread nD τ) none) Set.univ
      (k0_t2_body i arg1 harg1 oM harg2 bM harg3 pM harg4 mM harg5 gM harg6 cc0_scratch4 cc0_scratch5 h2 (iota .tc S1024x32 32 [1] iota_S1024x32_d1_w32) 0#32 1#32 k u)
      (mrgInv m c (k.val + 1)) := by
  unfold k0_t2_body
  simp only [Prog.lift, Prog.bind_op, Prog.bind_ret, Prog.pure_eq_ret]
  unfold mrgInv
  iintro ⟨HD, HG, HM⟩
  iapply (wp_load 𝒱₀ (c : Thread nD τ) none Set.univ (m := gM) (Finset.subset_univ _)) $$ HG; iintro HG
  iapply (wp_load 𝒱₀ (c : Thread nD τ) none Set.univ (m := mM) (Finset.subset_univ _)) $$ HM; iintro HM
  iapply (wp_load 𝒱₀ (c : Thread nD τ) none Set.univ (m := oM) (Finset.subset_univ _)) $$ HD; iintro HD
  iapply (wp_load 𝒱₀ (c : Thread nD τ) none Set.univ (m := oM) (Finset.subset_univ _)) $$ HD; iintro HD
  iapply (wp_store 𝒱₀ (c : Thread nD τ) none Set.univ (m := oM) (r := rO) (Mk := Finset.univ) (Finset.subset_univ _)) $$ HD; iintro HD
  iapply (wp_load 𝒱₀ (c : Thread nD τ) none Set.univ (m := gM) (Finset.subset_univ _)) $$ HG; iintro HG
  iapply (wp_store 𝒱₀ (c : Thread nD τ) none Set.univ (m := gM) (r := rG) (Mk := Finset.univ) (Finset.subset_univ _)) $$ HG; iintro HG
  iapply (wp_load 𝒱₀ (c : Thread nD τ) none Set.univ (m := mM) (Finset.subset_univ _)) $$ HM; iintro HM
  iapply (wp_store 𝒱₀ (c : Thread nD τ) none Set.univ (m := mM) (r := rO) (Mk := Finset.univ) (Finset.subset_univ _)) $$ HM; iintro HM
  rw [read_g, read_m, read_o, write_o, write_g, write_m, wp_ret, st2_succ]; unfold step2; dsimp only; imodintro
  isplitl [HD]; · iexact HD
  isplitl [HG]; · iexact HG
  iexact HM

/-- The merging loop, from a result at -inf. -/
theorem mrg_loop (hok) {β : Type} {kk : PUnit → Prog (TpuEff nD τ sig (Elt F) Λ₀ .tc) β} {Q : β → sProp 𝕄} :
    iprop(own c cc0_stg1_0 (k0_pay6 (F := F)) ∗ own c cc0_scratch3 (gath m c) ∗ own c cc0_scratch2 (mine m c))
      ⊢ iprop((∀ v, own c cc0_stg1_0 (outAt m c) ∗ (∃ g, own c cc0_scratch3 g) ∗ (∃ f, own c cc0_scratch2 f) -∗
            wp frame (wpE (defs₀ (F := F)) 𝒱₀ (c : Thread nD τ) none) Set.univ (kk v) Q)
          -∗ wp frame (wpE (defs₀ (F := F)) 𝒱₀ (c : Thread nD τ) none) Set.univ
            (Scf.Loop.for k0_t2_loop hok ⟨⟩ (k0_t2_body i arg1 harg1 oM harg2 bM harg3 pM harg4 mM harg5 gM harg6 cc0_scratch4 cc0_scratch5 h2
              (iota .tc S1024x32 32 [1] iota_S1024x32_d1_w32) 0#32 1#32) >>= kk) Q) := by
  iintro ⟨HD, HG, HM⟩ HK
  iapply (Scf.wp_for_bind frame (wpE (defs₀ (F := F)) 𝒱₀ (c : Thread nD τ) none) Set.univ _ _ _ hok ⟨⟩ _ (mrgInv m c)
    (mrg_trip m i arg1 harg1 harg2 harg3 harg4 harg5 harg6 c h2)) $$ [HD HG HM]
  · unfold mrgInv
    isplitl [HD]; · iexact HD
    isplitl [HG]; · iexact HG
    iexact HM
  iintro %v HI
  unfold mrgInv
  icases HI with ⟨HD, HG, HM⟩
  iapply HK
  isplitl [HD]; · unfold outAt; iexact HD
  isplitl [HG]; · iexists _; iexact HG
  iexists _; iexact HM

end Run

end Cert.Merge

end
-- ==== Proof.Body.lean ====
/-
# 01_k — `Body`: the proof data of the pipeline and its body obligation
-/
module

public import proofs.«01_k».proof.Proof.Last

@[expose] public section

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- The exchange's ghost state of device `c`: the records, its positions at round 0 of its nine cells, the tokens it pays with. -/
def ghost (K : Dev nD × CK → ℕ) (c : Dev nD) : sProp 𝕄 :=
  iprop(records m K ∗ (usedPos c 0 ∗ atPos ER (sendCell c 3) 0 ∅ 0 ∗ atPos ER (recvCell c (yk c)) 0 ∅ 0) ∗ payToks c)

/-- That at some names, the credit, and the levels. -/
def start (c : Dev nD) : sProp 𝕄 := iprop((∃ K, ghost m K c) ∗ startCred c ∗ levAts L lv)

/-- The counters of a device's cells at zero. -/
def zeros (c : Dev nD) : sProp 𝕄 :=
  iprop(semVal (barCell c) 0 ∗ (semVal (sendCell c 0) 0 ∗ semVal (sendCell c 1) 0 ∗ semVal (sendCell c 2) 0 ∗ semVal (sendCell c 3) 0)
    ∗ (semVal (recvCell c (yk c)) 0 ∗ semVal (recvCell c (aft (yk c) 0)) 0 ∗ semVal (recvCell c (aft (yk c) 1)) 0 ∗ semVal (recvCell c (aft (yk c) 2)) 0))

/-- Before grid point `n`: the list holds the best of the chunks so far, the gather buffer its filling. -/
def midPhi (c : Dev nD) (n : ℕ) : sProp 𝕄 :=
  iprop(start m c ∗ (∃ b : FVec F S1024x128 .f32, ⌜0 < n → b = bestAt m c n⌝ ∗ own c cc0_scratch0 b) ∗ (∃ p, own c cc0_scratch1 p) ∗ (∃ f, own c cc0_scratch2 f)
    ∗ (∃ g : FVec F S4x1024x32 .f32, ⌜0 < n → g = k0_pay8⌝ ∗ own c cc0_scratch3 g))

/-- After the last point: the scratch buffers at anything, every counter zero. -/
def endPhi (c : Dev nD) : sProp 𝕄 :=
  iprop(((∃ f, own c cc0_scratch0 f) ∗ (∃ f, own c cc0_scratch1 f) ∗ (∃ f, own c cc0_scratch2 f) ∗ (∃ f, own c cc0_scratch3 f)) ∗ zeros c)

def dats (ρ : Dev nD → PrngReg) (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => outAt m c
  Φ t := if t.val = 4 then endPhi c else midPhi m c t.val
  q _ := fullShare
  owed t := if t.val = 4 then 0 else O₀ c

/-! ## One grid point's body -/

section Run

variable (K : Dev nD × CK → ℕ)
variable (i : grid0.Coords) (arg1 : Memref sig .tc .vmem S1024x2048 .bf16) (harg1 : arg1.IsWhole) (arg2 : Memref sig .tc .vmem S1024x32 .f32) (harg2 : arg2.IsWhole)
  (harg3 : bM.IsWhole) (harg4 : pM.IsWhole) (harg5 : mM.IsWhole) (harg6 : gM.IsWhole) (c : Dev nD)

/-- A point before the last: the list is renewed. -/
theorem body_mid (h2 : ¬ k0_cond2 i = 1#1) (X : FVec F S1024x2048 .bf16) (b0 : FVec F S1024x128 .f32) (p0 : FVec F S1024x2176 .f32) (g0 : FVec F S4x1024x32 .f32)
    (Q : PUnit → sProp 𝕄) :
    iprop((own c cc0_scratch0 b0 ∗ own c cc0_scratch1 p0 ∗ own c cc0_scratch3 g0 ∗ owns (c : Thread nD τ) arg1 fullShare X)
      ∗ (own c cc0_scratch0 (st1 (poolOf (firstB i b0) X) k0_t1_loop.trips).2.2 ∗ (∃ p, own c cc0_scratch1 p) ∗ own c cc0_scratch3 (firstG i g0)
          ∗ owns (c : Thread nD τ) arg1 fullShare X -∗ Q ⟨⟩))
      ⊢ wp frame (wpE (defs₀ (F := F)) 𝒱₀ (c : Thread nD τ) none) Set.univ
          (cc0_body i arg1 harg1 arg2 harg2 bM harg3 pM harg4 mM harg5 gM harg6 cc0_scratch4 cc0_scratch5) Q := by
  rw [cc0_body_eq_skeleton]; unfold cc0_body_skel
  rw [wp_bind]
  unfold owns
  iintro ⟨⟨HB, HP, HG, ⟨%fx, %hfx, HX⟩⟩, HK⟩
  iapply (part5_run i arg1 harg1 arg2 harg2 harg3 harg4 harg5 harg6 cc0_scratch4 cc0_scratch5 c X fx hfx b0 p0 g0)
  isplitl [HB HP HG HX]
  · isplitl [HB]; · iexact HB
    isplitl [HP]; · iexact HP
    isplitl [HG]; · iexact HG
    iexact HX
  iintro %r ⟨-, HB, HP, HG, HX⟩
  obtain ⟨a0, d0, v2, v5, v8⟩ := r
  dsimp only
  rw [dif_neg h2]
  simp only [Prog.pure_eq_ret, Prog.bind_ret]
  rw [wp_ret]; imodintro
  iapply HK
  isplitl [HB]; · iexact HB
  isplitl [HP]; · iexact HP
  isplitl [HG]; · iexact HG
  iexists fx; isplitr; · ipureintro; exact hfx
  iexact HX

/-- The last point: the list is renewed, exchanged and merged. -/
theorem body_last (e2 : arg2 = oM) (h2 : k0_cond2 i = 1#1) (X : FVec F S1024x2048 .bf16) (b0 : FVec F S1024x128 .f32) (p0 : FVec F S1024x2176 .f32)
    (f0 : FVec F S1024x32 .f32) (g0 : FVec F S4x1024x32 .f32) (Y : FVec F S1024x32 .f32) (W : Waits sig Unit)
    (hb : (st1 (poolOf (firstB i b0) X) k0_t1_loop.trips).2.2 = bestAt m c 4) (hg : firstG i g0 = k0_pay8) (Q : PUnit → sProp 𝕄) :
    iprop((start m c ∗ owes (c : Thread nD τ) (O₀ c) W ∗ own c cc0_scratch0 b0 ∗ own c cc0_scratch1 p0 ∗ own c cc0_scratch2 f0 ∗ own c cc0_scratch3 g0
        ∗ owns (c : Thread nD τ) arg1 fullShare X ∗ owns (c : Thread nD τ) arg2 fullShare Y)
      ∗ ((∃ W', owes (c : Thread nD τ) 0 W') ∗ endPhi c ∗ owns (c : Thread nD τ) arg1 fullShare X ∗ owns (c : Thread nD τ) arg2 fullShare (outAt m c) -∗ Q ⟨⟩))
      ⊢ wp frame (wpE (defs₀ (F := F)) 𝒱₀ (c : Thread nD τ) none) Set.univ
          (cc0_body i arg1 harg1 arg2 harg2 bM harg3 pM harg4 mM harg5 gM harg6 cc0_scratch4 cc0_scratch5) Q := by
  subst e2
  rw [cc0_body_eq_skeleton]; unfold cc0_body_skel
  rw [wp_bind]
  unfold owns start ghost
  iintro ⟨⟨⟨⟨%K, #HR, ⟨HU, HaS3, HaV⟩, HT⟩, HC, #Hlev⟩, HO, HB, HP, HM, HG, ⟨%fx, %hfx, HX⟩, ⟨%fy, %hfy, HD⟩⟩, HK⟩
  iapply (part5_run i arg1 harg1 oM harg2 harg3 harg4 harg5 harg6 cc0_scratch4 cc0_scratch5 c X fx hfx b0 p0 g0)
  isplitl [HB HP HG HX]
  · isplitl [HB]; · iexact HB
    isplitl [HP]; · iexact HP
    isplitl [HG]; · iexact HG
    iexact HX
  iintro %r ⟨%hr, HB, HP, HG, HX⟩
  obtain ⟨a0, d0, v2, v5, v8⟩ := r
  dsimp only at hr
  subst hr
  dsimp only
  rw [dif_pos h2, hb, hg]
  rw [wp_bind]
  ihave HD' := (show (oM.view.loc (d0 : Thread nD τ) ↦[oM.view.set]{fullShare} fy : sProp 𝕄) ⊢ own d0 cc0_stg1_0 fy from
    Entails.of_eq (congrArg (fun I => ((d0 : Thread nD τ).loc cc0_stg1_0 ↦[I]{fullShare} fy : sProp 𝕄)) (View.set_whole cc0_stg1_0))) $$ HD
  iapply (part4_run m K i arg1 harg1 harg2 harg3 harg4 harg5 harg6 d0 v2 v5 v8 h2 rfl W f0 fy)
  isplitl [HT HU HC HO HB HM HG HD']
  · isplitr; · iexact HR
    isplitr; · iexact Hlev
    isplitl [HT]; · iexact HT
    isplitl [HU]; · iexact HU
    isplitl [HC]; · iexact HC
    isplitl [HO]; · iexact HO
    isplitl [HB]; · iexact HB
    isplitl [HM]; · iexact HM
    isplitl [HG]; · iexact HG
    iexact HD'
  iintro %r ⟨%hr, ⟨%W', HO⟩, HU, HB, HM, HG, HD⟩
  subst hr
  dsimp only
  iapply (mrg_loop m i arg1 harg1 harg2 harg3 harg4 harg5 harg6 d0 h2) $$ [HD HG HM]
  · isplitl [HD]; · iexact HD
    isplitl [HG]; · iexact HG
    iexact HM
  iintro %u ⟨HD, HG, HM⟩
  simp only [Prog.pure_eq_ret, Prog.bind_ret]
  unfold usedPos
  icases HU with ⟨HaB, ⟨HaS0, HaS1, HaS2⟩, ⟨HaV0, HaV1, HaV2⟩⟩
  imod (Rounds.cell_close ER (Rd (F := F) m) (Set.mem_univ (K (d0, .inl ()))) (fun h => h) (R := 0 + 1) (duties_later m (barCell d0))) $$ [HaB] with HzB
  · isplitr; · iapply (inv_bar m K d0); iexact HR
    iexact HaB
  imod (Rounds.cell_close ER (Rd (F := F) m) (Set.mem_univ (K (d0, .inr (.inl 0)))) (fun h => h) (R := 0 + 1) (duties_later m (sendCell d0 0))) $$ [HaS0] with HzS0
  · isplitr; · iapply (inv_send m K d0 0); iexact HR
    iexact HaS0
  imod (Rounds.cell_close ER (Rd (F := F) m) (Set.mem_univ (K (d0, .inr (.inl 1)))) (fun h => h) (R := 0 + 1) (duties_later m (sendCell d0 1))) $$ [HaS1] with HzS1
  · isplitr; · iapply (inv_send m K d0 1); iexact HR
    iexact HaS1
  imod (Rounds.cell_close ER (Rd (F := F) m) (Set.mem_univ (K (d0, .inr (.inl 2)))) (fun h => h) (R := 0 + 1) (duties_later m (sendCell d0 2))) $$ [HaS2] with HzS2
  · isplitr; · iapply (inv_send m K d0 2); iexact HR
    iexact HaS2
  imod (Rounds.cell_close ER (Rd (F := F) m) (Set.mem_univ (K (d0, .inr (.inl 3)))) (fun h => h) (R := 0) (duties_none m (sendCell d0 3) (duties_send3 m d0))) $$ [HaS3] with HzS3
  · isplitr; · iapply (inv_send m K d0 3); iexact HR
    iexact HaS3
  imod (Rounds.cell_close ER (Rd (F := F) m) (Set.mem_univ (K (d0, .inr (.inr (aft (yk d0) 0))))) (fun h => h) (R := 0 + 1) (duties_later m (recvCell d0 (aft (yk d0) 0)))) $$ [HaV0] with HzV0
  · isplitr; · iapply (inv_recv m K d0 (aft (yk d0) 0)); iexact HR
    iexact HaV0
  imod (Rounds.cell_close ER (Rd (F := F) m) (Set.mem_univ (K (d0, .inr (.inr (aft (yk d0) 1))))) (fun h => h) (R := 0 + 1) (duties_later m (recvCell d0 (aft (yk d0) 1)))) $$ [HaV1] with HzV1
  · isplitr; · iapply (inv_recv m K d0 (aft (yk d0) 1)); iexact HR
    iexact HaV1
  imod (Rounds.cell_close ER (Rd (F := F) m) (Set.mem_univ (K (d0, .inr (.inr (aft (yk d0) 2))))) (fun h => h) (R := 0 + 1) (duties_later m (recvCell d0 (aft (yk d0) 2)))) $$ [HaV2] with HzV2
  · isplitr; · iapply (inv_recv m K d0 (aft (yk d0) 2)); iexact HR
    iexact HaV2
  imod (Rounds.cell_close ER (Rd (F := F) m) (Set.mem_univ (K (d0, .inr (.inr (yk d0))))) (fun h => h) (R := 0) (duties_none m (recvCell d0 (yk d0)) (duties_recv0 m d0))) $$ [HaV] with HzV
  · isplitr; · iapply (inv_recv m K d0 (yk d0)); iexact HR
    iexact HaV
  rw [wp_ret]; imodintro
  iapply HK
  isplitl [HO]; · iexists W'; iexact HO
  isplitl [HB HP HM HG HzB HzS0 HzS1 HzS2 HzS3 HzV HzV0 HzV1 HzV2]
  · unfold endPhi zeros
    isplitl [HB HP HM HG]
    · isplitl [HB]; · iexists _; iexact HB
      isplitl [HP]; · iexact HP
      isplitl [HM]; · iexact HM
      iexact HG
    isplitl [HzB]; · iexact HzB
    isplitl [HzS0 HzS1 HzS2 HzS3]
    · isplitl [HzS0]; · iexact HzS0
      isplitl [HzS1]; · iexact HzS1
      isplitl [HzS2]; · iexact HzS2
      iexact HzS3
    isplitl [HzV]; · iexact HzV
    isplitl [HzV0]; · iexact HzV0
    isplitl [HzV1]; · iexact HzV1
    iexact HzV2
  isplitl [HX]
  · iexists fx; isplitr; · ipureintro; exact hfx
    iexact HX
  iexists (outAt m d0 : FVec F S1024x32 .f32)
  isplitr; · ipureintro; exact View.read_whole _ _
  iapply (show (own d0 cc0_stg1_0 (outAt m d0) : sProp 𝕄) ⊢ (oM.view.loc (d0 : Thread nD τ) ↦[oM.view.set]{fullShare} (outAt m d0)) from
    Entails.of_eq (congrArg (fun I => ((d0 : Thread nD τ).loc cc0_stg1_0 ↦[I]{fullShare} (outAt m d0) : sProp 𝕄)) (View.set_whole cc0_stg1_0).symm))
  iexact HD

end Run

/-! ## The obligation -/

theorem coords_val (t : Fin cfg0.N) : ((grid0.coords t) 0).val = t.val := by
  rcases fin_N0 t with h | h | h | h <;> subst h <;> decide

theorem cond_iff (t : Fin cfg0.N) : k0_cond2 (grid0.coords t) = 1#1 ↔ t.val = 3 := by
  rcases fin_N0 t with h | h | h | h <;> subst h <;> decide

theorem stage1 : ∀ s : Fin 1, win0_1.stage s = oM := by
  intro s; have : s = 0 := Subsingleton.elim _ _
  subst this; rfl

theorem firstB_eq (c : Dev nD) (t : Fin cfg0.N) (b : FVec F S1024x128 .f32) (h : 0 < t.val → b = bestAt m c t.val) :
    firstB (grid0.coords t) b = bestAt m c t.val := by
  unfold firstB
  rw [coords_val]
  by_cases h0 : t.val = 0
  · rw [if_pos h0, h0]; rfl
  · rw [if_neg h0]; exact h (Nat.pos_of_ne_zero h0)

theorem firstG_eq (t : Fin cfg0.N) (g : FVec F S4x1024x32 .f32) (h : 0 < t.val → g = k0_pay8) : firstG (grid0.coords t) g = k0_pay8 := by
  unfold firstG
  rw [coords_val]
  by_cases h0 : t.val = 0
  · rw [if_pos h0]
  · rw [if_neg h0]; exact h (Nat.pos_of_ne_zero h0)

theorem before0 (ρ : Dev nD → PrngReg) (c : Dev nD) (t : Fin cfg0.N) (d) : (dats m ρ 0 c).before (0 : Fin 2) t d = xblk m c t := by
  unfold Dat.before; rw [if_pos (fetch0_0 t)]; rfl

theorem leaves0 (ρ : Dev nD → PrngReg) (c : Dev nD) (t : Fin cfg0.N) :
    (dats m ρ 0 c).leavesExact (0 : Fin 2) t = owns (c : Thread nD τ) (win0_0.stage (cfg0.slots t (0 : Fin 2))) fullShare (xblk m c t) := by
  rfl

theorem idle1 (t : Fin cfg0.N) : cfg0.idle (1 : Fin 2) (grid0.coords t) = !decide (t.val = 3) := by
  rcases fin_N0 t with h | h | h | h <;> subst h <;> decide

theorem leaves1_last (ρ : Dev nD → PrngReg) (c : Dev nD) (t : Fin cfg0.N) (h : t.val = 3) :
    (dats m ρ 0 c).leavesExact (1 : Fin 2) t = owns (c : Thread nD τ) (win0_1.stage (cfg0.slots t (1 : Fin 2))) fullShare (outAt m c) := by
  unfold Dat.leavesExact
  rw [show cfg0.idle (1 : Fin 2) (cfg0.grid.coords t) = false from (idle1 t).trans (by rw [h]; rfl)]
  rfl

theorem leaves1_mid (ρ : Dev nD → PrngReg) (c : Dev nD) (t : Fin cfg0.N) (h : ¬ t.val = 3) :
    (dats m ρ 0 c).leavesExact (1 : Fin 2) t
      = iprop(∃ d, owns (c : Thread nD τ) (win0_1.stage (cfg0.slots t (1 : Fin 2))) fullShare ((dats m ρ 0 c).before (1 : Fin 2) t d)) := by
  refine (dats m ρ 0 c).leavesExact_idle (1 : Fin 2) t ((idle1 t).trans (by rw [decide_eq_false h]; rfl)) ?_
  rcases fin_N0 t with h' | h' | h' | h' <;> subst h' <;> first | exact absurd rfl h | decide

/-- The pipeline's body obligation on device `c`. -/
theorem body_obligation (ρ : Dev nD → PrngReg) (c : Dev nD) : BodyObligation (dats (F := F) m ρ 0 c) (defs₀ (F := F)) 𝒱₀ () Set.univ := fun t => by
  show iprop((dats m ρ 0 c).Φ t.castSucc ∗ (dats m ρ 0 c).owesAt () t.castSucc
      ∗ bigSep Finset.univ fun w : Fin cfg0.W =>
          iprop(∃ d, owns (c : Thread nD τ) ((cfg0.win w).stage (cfg0.slots t w)) fullShare ((dats m ρ 0 c).before w t d)))
    ⊢ wp frame (wpE (defs₀ (F := F)) 𝒱₀ (c : Thread nD τ) none) Set.univ (bodyAt0 t) fun _ =>
        iprop((dats m ρ 0 c).Φ t.succ ∗ (dats m ρ 0 c).owesAt () t.succ ∗ bigSep Finset.univ fun w : Fin cfg0.W => (dats m ρ 0 c).leavesExact w t)
  rw [bigSep_W0, bigSep_W0]
  have ht : t.val < 4 := t.isLt
  have hΦ : (dats m ρ 0 c).Φ t.castSucc = midPhi m c t.val := if_neg (by rw [Fin.val_castSucc]; omega)
  have hO : (dats m ρ 0 c).owed t.castSucc = O₀ c := if_neg (by rw [Fin.val_castSucc]; omega)
  rw [hΦ, leaves0]
  simp only [before0]
  unfold Dat.owesAt bodyAt0
  rw [hO]
  by_cases h3 : t.val = 3
  · have hΦ' : (dats m ρ 0 c).Φ t.succ = endPhi c := if_pos (by rw [Fin.val_succ]; omega)
    have hO' : (dats m ρ 0 c).owed t.succ = 0 := if_pos (by rw [Fin.val_succ]; omega)
    rw [hΦ', hO', leaves1_last m ρ c t h3]
    unfold midPhi
    iintro ⟨⟨HS, ⟨%b, %hb, HB⟩, ⟨%p, HP⟩, ⟨%f, HM⟩, ⟨%g, %hg, HG⟩⟩, ⟨%W, %hW, HO⟩, ⟨%d, HX⟩, ⟨%d', HD⟩⟩
    iapply (body_last m (grid0.coords t) _ (hstage0_0 _) _ (hstage0_1 _) _ _ _ _ c (stage1 _) ((cond_iff t).mpr h3) (xblk m c t) b p f g _ W
      (by rw [firstB_eq m c t b hb, ← bestAt_succ, h3]) (firstG_eq t g hg))
    isplitr []
    · isplitl [HS]; · iexact HS
      isplitl [HO]; · iexact HO
      isplitl [HB]; · iexact HB
      isplitl [HP]; · iexact HP
      isplitl [HM]; · iexact HM
      isplitl [HG]; · iexact HG
      isplitl [HX]; · iexact HX
      iexact HD
    iintro ⟨⟨%W', HO⟩, HE, HX, HD⟩
    isplitl [HE]; · iexact HE
    isplitl [HO]
    · iexists W'; isplitr; · ipureintro; exact fun _ _ => Or.inl trivial
      iexact HO
    isplitl [HX]; · iexact HX
    iexact HD
  · have hΦ' : (dats m ρ 0 c).Φ t.succ = midPhi m c (t.val + 1) := (if_neg (by rw [Fin.val_succ]; omega)).trans (by rw [Fin.val_succ])
    have hO' : (dats m ρ 0 c).owed t.succ = O₀ c := if_neg (by rw [Fin.val_succ]; omega)
    rw [hΦ', hO', leaves1_mid m ρ c t h3]
    unfold midPhi
    iintro ⟨⟨HS, ⟨%b, %hb, HB⟩, ⟨%p, HP⟩, HM, ⟨%g, %hg, HG⟩⟩, ⟨%W, %hW, HO⟩, ⟨%d, HX⟩, HD⟩
    iapply (body_mid (grid0.coords t) _ (hstage0_0 _) _ (hstage0_1 _) _ _ _ _ c (fun h => h3 ((cond_iff t).mp h)) (xblk m c t) b p g)
    isplitl [HB HP HG HX]
    · isplitl [HB]; · iexact HB
      isplitl [HP]; · iexact HP
      isplitl [HG]; · iexact HG
      iexact HX
    iintro ⟨HB, HP, HG, HX⟩
    isplitl [HS HB HP HM HG]
    · isplitl [HS]; · iexact HS
      isplitl [HB]
      · iexists _; isplitr [HB]; swap; · iexact HB
        ipureintro; intro _; rw [firstB_eq m c t b hb, ← bestAt_succ]
      isplitl [HP]; · iexact HP
      isplitl [HM]; · iexact HM
      iexists _; isplitr [HG]; swap; · iexact HG
      ipureintro; intro _; exact firstG_eq t g hg
    isplitl [HO]
    · iexists W; isplitr; · ipureintro; exact fun _ _ => Or.inl trivial
      iexact HO
    isplitl [HX]; · iexact HX
    iexact HD

end Cert.Merge

end
-- ==== Proof.Run.lean ====
/-
# 01_k — `Run`: the launch and the run of the whole program.
-/
module

public import proofs.«01_k».proof.Proof.Body
public import Idealize.ShloMosaic.Lib.Pipeline.CollectiveSegs

@[expose] public section

noncomputable section

namespace Cert.Merge

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Cells and tokens -/

/-- The kernel's own semaphores: four send, four receive. -/
abbrev osem : Fin 8 → SemLoc sig := fun
  | 0 => .dma (sendS 0) | 1 => .dma (sendS 1) | 2 => .dma (sendS 2) | 3 => .dma (sendS 3)
  | 4 => .dma (recvS 0) | 5 => .dma (recvS 1) | 6 => .dma (recvS 2) | 7 => .dma (recvS 3)

theorem ownSemFacts : Pipeline.OwnSemFacts cfg0.spec osem := by decide

theorem share_eq (c : Dev nD) (w : Fin cfg0.W) : (dats m ρ 0 c).share w = fullShare := by unfold Dat.share; split <;> rfl

abbrev csem : CK → SemLoc sig
  | .inl _ => .reg barS
  | .inr (.inl j) => .dma (sendS j)
  | .inr (.inr j) => .dma (recvS j)

theorem kcell_eq (p : Dev nD × CK) : kcell p = ((p.1 : Thread nD τ), csem p.2) := by
  obtain ⟨c, u | j | j⟩ := p <;> rfl

theorem csem_injective : Function.Injective csem := by decide

theorem dev_of {a b : Dev nD} {s s' : SemLoc sig} (h : (((a : Thread nD τ), s) : GSem nD τ sig) = ((b : Thread nD τ), s')) : a = b :=
  congrArg (fun g : GSem nD τ sig => g.1.1) h

theorem kcell_injective : Function.Injective (kcell : Dev nD × CK → GSem nD τ sig) := by
  rintro ⟨c, k⟩ ⟨c', k'⟩ h
  rw [kcell_eq, kcell_eq] at h
  have h1 : c = c' := dev_of h
  subst h1
  have h2 : k = k' := csem_injective (congrArg Prod.snd h)
  subst h2; rfl
def theCells : Finset (GSem nD τ sig) := Finset.univ.map ⟨kcell, kcell_injective⟩

/-- The duties of a device's own cells: three on its barrier, one on each of three send cells and of four receive cells. -/
abbrev TI : Type := Fin 3 ⊕ Fin 3 ⊕ Fin 4

abbrev tsem : TI → SemLoc sig × Fin 3
  | .inl d => (.reg barS, d)
  | .inr (.inl j) => (.dma (sendS j.castSucc), 0)
  | .inr (.inr j) => (.dma (recvS j), 0)

theorem tsem_injective : Function.Injective tsem := by decide

abbrev tokOf (p : Dev nD × TI) : GSem nD τ sig × ℕ × Fin 3 := (((p.1 : Thread nD τ), (tsem p.2).1), 0, (tsem p.2).2)
theorem tokOf_injective : Function.Injective (tokOf : Dev nD × TI → GSem nD τ sig × ℕ × Fin 3) := by
  rintro ⟨c, k⟩ ⟨c', k'⟩ h
  have h1 : c = c' := dev_of (congrArg (fun x : GSem nD τ sig × ℕ × Fin 3 => x.1) h)
  subst h1
  have h2 : k = k' := tsem_injective (congrArg (fun x : GSem nD τ sig × ℕ × Fin 3 => (x.1.2, x.2.2)) h)
  subst h2; rfl
def theToks : Finset (GSem nD τ sig × ℕ × Fin 3) := Finset.univ.map ⟨tokOf, tokOf_injective⟩

def u₀ : UU := (initOf (Pipeline.cells cfgs cellOf_inj) (Pipeline.launchToks cfgs cellOf_inj), initOf theCells theToks)

/-- The duty tokens of device `c`'s own cells. -/
def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c (yk c)) 0 0 ∗ dutyTok ER (recvCell c (aft (yk c) 0)) 0 0 ∗ dutyTok ER (recvCell c (aft (yk c) 1)) 0 0
        ∗ dutyTok ER (recvCell c (aft (yk c) 2)) 0 0))

/-- What the launch deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem bigSep_ck (Φ : CK → sProp 𝕄) : bigSep Finset.univ Φ
    = iprop(Φ (.inl ()) ∗ Φ (.inr (.inl 0)) ∗ Φ (.inr (.inl 1)) ∗ Φ (.inr (.inl 2)) ∗ Φ (.inr (.inl 3))
        ∗ Φ (.inr (.inr 0)) ∗ Φ (.inr (.inr 1)) ∗ Φ (.inr (.inr 2)) ∗ Φ (.inr (.inr 3))) :=
  bigSep_univ_eq_bigSepL ([.inl (), .inr (.inl 0), .inr (.inl 1), .inr (.inl 2), .inr (.inl 3), .inr (.inr 0), .inr (.inr 1), .inr (.inr 2), .inr (.inr 3)] : List CK)
    (by decide) (by decide) Φ

omit [FloatOps F] in
theorem bigSep_ti (Φ : TI → sProp 𝕄) : bigSep Finset.univ Φ
    = iprop(Φ (.inl 0) ∗ Φ (.inl 1) ∗ Φ (.inl 2) ∗ Φ (.inr (.inl 0)) ∗ Φ (.inr (.inl 1)) ∗ Φ (.inr (.inl 2))
        ∗ Φ (.inr (.inr 0)) ∗ Φ (.inr (.inr 1)) ∗ Φ (.inr (.inr 2)) ∗ Φ (.inr (.inr 3))) :=
  bigSep_univ_eq_bigSepL ([.inl 0, .inl 1, .inl 2, .inr (.inl 0), .inr (.inl 1), .inr (.inl 2), .inr (.inr 0), .inr (.inr 1), .inr (.inr 2), .inr (.inr 3)] : List TI)
    (by decide) (by decide) Φ

theorem toks_intro (c : Dev nD) : (bigSep Finset.univ fun k : TI => (dutyTok ER (tokOf (c, k)).1 (tokOf (c, k)).2.1 (tokOf (c, k)).2.2 : sProp 𝕄)) ⊢ toks c := by
  rw [bigSep_ti]
  unfold toks
  iintro ⟨B0, B1, B2, S0, S1, S2, V0, V1, V2, V3⟩
  isplitl [B0 B1 B2]
  · isplitl [B0]; · iexact B0
    isplitl [B1]; · iexact B1
    iexact B2
  isplitl [S0 S1 S2]
  · isplitl [S0]; · iexact S0
    isplitl [S1]; · iexact S1
    iexact S2
  iapply (Entails.of_eq ((bigSep_fin4 _).symm.trans (split4 (yk c) fun j => (dutyTok ER (recvCell c j) 0 0 : sProp 𝕄))))
  isplitl [V0]; · iexact V0
  isplitl [V1]; · iexact V1
  isplitl [V2]; · iexact V2
  iexact V3

theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CK => Φ (kcell (c, k)) := by
    unfold theCells; rw [bigSep_map, bigSep_univ_prod]; rfl
  have hT : bigSep theToks (fun x => (dutyTok ER x.1 x.2.1 x.2.2 : sProp 𝕄)) ⊢ bigSep Finset.univ fun c : Dev nD => toks c := by
    unfold theToks; rw [bigSep_map, bigSep_univ_prod]
    exact bigSep_mono fun c _ => toks_intro c
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_split (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, show (bigSep Finset.univ fun k : CK => (semVal (kcell (c, k)) 0 : sProp 𝕄))
      = iprop(semVal (barCell c) 0 ∗ semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) from bigSep_ck _]
  iintro ⟨H, HB⟩
  isplitl [HB]; · iexact HB
  iexact H

theorem zeros_exit (c : Dev nD) : zeros (F := F) c ⊢ iprop(unscopedSems0 c ∗ Pipeline.ownSems0 (Ix := Unit) (Name := ℕ) (U := UU) (Lvl := ℕ) (Val := Elt F) (τ := τ) osem c) := by
  rw [ownSems0_eq, unscopedSems0_eq]; unfold zeros
  iintro ⟨HB, ⟨S0, S1, S2, S3⟩, HV⟩
  ihave HV' := (Entails.of_eq ((split4 (yk c) fun j => (semVal (recvCell c j) 0 : sProp 𝕄)).symm.trans (bigSep_fin4 _))) $$ HV
  isplitl [HB]; · iexact HB
  isplitl [S0]; · iexact S0
  isplitl [S1]; · iexact S1
  isplitl [S2]; · iexact S2
  isplitl [S3]; · iexact S3
  iexact HV'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_split (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions and the tokens it pays with. -/
def linear (c : Dev nD) : sProp 𝕄 :=
  iprop((usedPos c 0 ∗ atPos ER (sendCell c 3) 0 ∅ 0 ∗ atPos ER (recvCell c (yk c)) 0 ∅ 0) ∗ payToks c)

theorem ghost_intro (K : Dev nD × CK → ℕ) (c : Dev nD) : iprop(records m K ∗ linear c) ⊢ G' m c := by
  unfold G' ghost linear
  iintro H; iexists K; iexact H

theorem linear_intro (c : Dev nD) :
    iprop((bigSep Finset.univ fun k : CK => (atPos ER (kcell (c, k)) 0 ∅ 0 : sProp 𝕄)) ∗ payToks c) ⊢ linear c := by
  unfold linear usedPos
  rw [show (bigSep Finset.univ fun k : CK => (atPos ER (kcell (c, k)) 0 ∅ 0 : sProp 𝕄))
      = iprop(atPos ER (barCell c) 0 ∅ 0 ∗ atPos ER (sendCell c 0) 0 ∅ 0 ∗ atPos ER (sendCell c 1) 0 ∅ 0 ∗ atPos ER (sendCell c 2) 0 ∅ 0 ∗ atPos ER (sendCell c 3) 0 ∅ 0
        ∗ atPos ER (recvCell c 0) 0 ∅ 0 ∗ atPos ER (recvCell c 1) 0 ∅ 0 ∗ atPos ER (recvCell c 2) 0 ∅ 0 ∗ atPos ER (recvCell c 3) 0 ∅ 0) from bigSep_ck _]
  iintro ⟨⟨B, S0, S1, S2, S3, HV⟩, HT⟩
  ihave HV' := (Entails.of_eq ((bigSep_fin4 _).symm.trans (split4 (yk c) fun j => (atPos ER (recvCell c j) 0 ∅ 0 : sProp 𝕄)))) $$ HV
  icases HV' with ⟨V, V0, V1, V2⟩
  isplitr [HT]; swap; · iexact HT
  isplitl [B S0 S1 S2 V0 V1 V2]
  · isplitl [B]; · iexact B
    isplitl [S0 S1 S2]
    · isplitl [S0]; · iexact S0
      isplitl [S1]; · iexact S1
      iexact S2
    isplitl [V0]; · iexact V0
    isplitl [V1]; · iexact V1
    iexact V2
  isplitl [S3]; · iexact S3
  iexact V

/-- Stepping along the ring, as a permutation of the devices. -/
def pkE (δ : Fin 3) : Dev nD ≃ Dev nD := ⟨fun c => pk c δ, fun c => pk c (rev δ), fun c => pk_rev c δ, fun c => pk_rev' c δ⟩

theorem aft_rev (c : Dev nD) (δ : Fin 3) : aft (yk (pk c δ)) (rev δ) = yk c := by rw [← yk_pk, pk_rev]

theorem bar_around (δ d : Fin 3) : (bigSep Finset.univ fun c : Dev nD => (dutyTok ER (barCell c) 0 d : sProp 𝕄))
    = bigSep Finset.univ fun c : Dev nD => dutyTok ER (barCell (pk c δ)) 0 d :=
  bigSep_univ_equiv (pkE δ) (fun c : Dev nD => (dutyTok ER (barCell c) 0 d : sProp 𝕄))

theorem recv_around (δ : Fin 3) : (bigSep Finset.univ fun c : Dev nD => (dutyTok ER (recvCell c (aft (yk c) (rev δ))) 0 0 : sProp 𝕄))
    = bigSep Finset.univ fun c : Dev nD => dutyTok ER (recvCell (pk c δ) (yk c)) 0 0 :=
  (bigSep_univ_equiv (pkE δ) (fun c : Dev nD => (dutyTok ER (recvCell c (aft (yk c) (rev δ))) 0 0 : sProp 𝕄))).trans
    (bigSep_congr fun c _ => by rw [← aft_rev c δ]; rfl)

theorem toks_around : (bigSep Finset.univ fun c : Dev nD => (toks c : sProp 𝕄)) ⊢ bigSep Finset.univ fun c : Dev nD => payToks c := by
  unfold toks payToks
  simp only [bigSep_sep']
  rw [bar_around 0 0, bar_around 1 1, bar_around 2 2]
  iintro ⟨HB, HS, -, V0, V1, V2⟩
  isplitl [HB]; · iexact HB
  isplitr [HS]; swap; · iexact HS
  isplitl [V2]; · iapply (Entails.of_eq (recv_around (F := F) 0)); iexact V2
  isplitl [V1]; · iapply (Entails.of_eq (recv_around (F := F) 1)); iexact V1
  iapply (Entails.of_eq (recv_around (F := F) 2)); iexact V0

theorem with_records {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (with_records (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem recvS_inj {i j : Fin 4} (h : (SemLoc.dma (recvS i) : SemLoc sig) = .dma (recvS j)) : i = j := by
  revert i j; decide

theorem tally_bar (a c : Dev nD) (k : ℕ) : (tallyAt (barCell a) () k : CellTallies nD τ sig Unit) (barCell c) () = if c = a then k else 0 := by
  rw [tallyAt_apply]
  by_cases h : c = a
  · subst h; rw [if_pos ⟨rfl, rfl⟩, if_pos rfl]
  · rw [if_neg (fun h' => h (dev_of h'.1)), if_neg h]

theorem tally_recv (a c : Dev nD) (i j : Fin 4) (k : ℕ) :
    (tallyAt (recvCell a i) () k : CellTallies nD τ sig Unit) (recvCell c j) () = if c = a ∧ j = i then k else 0 := by
  rw [tallyAt_apply]
  by_cases h : c = a ∧ j = i
  · obtain ⟨h1, h2⟩ := h
    subst h1 h2; rw [if_pos ⟨rfl, rfl⟩, if_pos ⟨rfl, rfl⟩]
  · rw [if_neg (fun h' => h ⟨dev_of h'.1, recvS_inj (congrArg Prod.snd h'.1)⟩), if_neg h]

theorem tally_recv_bar (a c : Dev nD) (i : Fin 4) (k : ℕ) : (tallyAt (recvCell a i) () k : CellTallies nD τ sig Unit) (barCell c) () = 0 := by
  rw [tallyAt_ne_cell (fun h => by cases congrArg Prod.snd h)]; rfl
theorem tally_bar_recv (a c : Dev nD) (j : Fin 4) (k : ℕ) : (tallyAt (barCell a) () k : CellTallies nD τ sig Unit) (recvCell c j) () = 0 := by
  rw [tallyAt_ne_cell (fun h => by cases congrArg Prod.snd h)]; rfl

theorem owed_bar (d c : Dev nD) : O₀ d (barCell c) () = ((if c = pk d 2 then 1 else 0) + if c = pk d 1 then 1 else 0) + if c = pk d 0 then 1 else 0 := by
  unfold O₀ OR
  simp only [Pi.add_apply, Finsupp.add_apply, tally_bar, tally_recv_bar, Pi.zero_apply, Finsupp.zero_apply, Nat.zero_add]

theorem recv_count : ∀ (d c : Dev nD) (δ : Fin 3), ((if c = pk d 2 ∧ aft (yk c) δ = yk d then 1 else 0) + (if c = pk d 1 ∧ aft (yk c) δ = yk d then 1 else 0)
    + if c = pk d 0 ∧ aft (yk c) δ = yk d then 1 else 0 : ℕ) = if d = pk c δ then 1 else 0 := by
  decide +kernel

theorem owed_recv (d c : Dev nD) (δ : Fin 3) : O₀ d (recvCell c (aft (yk c) δ)) () = if d = pk c δ then N else 0 := by
  have e (p : Prop) [Decidable p] : (if p then N else 0) = (if p then 1 else 0) * N := by split <;> simp
  unfold O₀ OR
  simp only [Pi.add_apply, Finsupp.add_apply, tally_recv, tally_bar_recv, Pi.zero_apply, Finsupp.zero_apply, Nat.zero_add, Nat.add_zero]
  rw [e, e, e, e, ← Nat.add_mul, ← Nat.add_mul, recv_count]

theorem bar_sum : ∀ c : Dev nD, (∑ d : Dev nD, (((if c = pk d 2 then 1 else 0) + if c = pk d 1 then 1 else 0) + if c = pk d 0 then 1 else 0 : ℕ)) = 3 := by
  decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, bar_sum]

theorem launch_recv (c : Dev nD) (δ : Fin 3) :
    tallyOn (recvCell c (aft (yk c) δ)) (launchCredit (Pipeline.owing O₀) 0 (recvCell c (aft (yk c) δ)))
      = (tallyAt (recvCell c (aft (yk c) δ)) () N : CellTallies nD τ sig Unit) := by
  unfold tallyAt; refine congrArg _ (Finsupp.ext fun u => ?_); cases u
  rw [Pipeline.launchCredit_owing, Finsupp.single_eq_same, Finset.sum_congr rfl fun d _ => owed_recv d c δ, Finset.sum_ite_eq' Finset.univ (pk c δ) fun _ => N,
    if_pos (Finset.mem_univ _)]

theorem aft_inj : ∀ (y : Fin 4) (a b : Fin 3), aft y a = aft y b → a = b := by decide

theorem creds (c : Dev nD) : (Pipeline.launchCred O₀ c : sProp 𝕄) ⊢ startCred c := by
  unfold Pipeline.launchCred startCred
  have hne (a b : Fin 3) (h : a ≠ b) : (SemLoc.dma (recvS (aft (yk c) a)) : SemLoc sig) ≠ .dma (recvS (aft (yk c) b)) :=
    fun e => h (aft_inj _ _ _ (recvS_inj e))
  have hb (a : Fin 3) : (SemLoc.dma (recvS (aft (yk c) a)) : SemLoc sig) ≠ .reg barS := fun e => by cases e
  rw [bigSep_univ_at _ (SemLoc.reg barS), launch_bar]
  refine sep_mono_right ?_
  rw [← launch_recv, ← launch_recv, ← launch_recv]
  rw [bigSep_erase (Finset.mem_erase.mpr ⟨hb 0, Finset.mem_univ _⟩)]
  refine sep_mono_right ?_
  rw [bigSep_erase (Finset.mem_erase.mpr ⟨hne 1 0 (by decide), Finset.mem_erase.mpr ⟨hb 1, Finset.mem_univ _⟩⟩)]
  refine sep_mono_right ?_
  exact bigSep_elim (Finset.mem_erase.mpr ⟨hne 2 1 (by decide), Finset.mem_erase.mpr ⟨hne 2 0 (by decide), Finset.mem_erase.mpr ⟨hb 2, Finset.mem_univ _⟩⟩⟩)

/-! ## Side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem own_intro (c : Dev nD) (b : Ref sig .tc) : iprop(∃ f : Buf (Elt F) ((c : Thread nD τ).loc b), ((c : Thread nD τ).loc b) ↦{fullShare} f) ⊢ (iprop(∃ f, own c b f) : sProp 𝕄) :=
  Entails.rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = midPhi m c 0 from rfl, scopedRest0_eq]
  unfold midPhi
  iintro ⟨Hs, -, ⟨%b, HB⟩, HP, HM, ⟨%g, HG⟩⟩
  isplitl [Hs]; · iexact Hs
  isplitl [HB]
  · iexists b; isplitr; · ipureintro; exact fun h => absurd h (Nat.lt_irrefl 0)
    iexact HB
  isplitl [HP]; · iexact HP
  isplitl [HM]; · iexact HM
  iexists g; isplitr; · ipureintro; exact fun h => absurd h (Nat.lt_irrefl 0)
  iexact HG

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = endPhi c from rfl, scopedRest0_eq]
  unfold endPhi
  iintro ⟨HS, HZ⟩
  ihave HZ' := (zeros_exit (F := F) c) $$ HZ
  icases HZ' with ⟨HB, HO⟩
  isplitl [HB]; · iexact HB
  isplitl [HO]; · iexact HO
  iexact HS

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      by_cases h : t.val = 4
      · exact Or.inr (if_pos h)
      · exact Or.inl (if_neg h))

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the program terminates, and every
    final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Merge

end
-- ==== Proof.Levels.lean ====
/-
# 01_k — `Levels`: the distinct values of a set of extended reals, from the greatest down

`lev S k` is the `k`-th of them (with `lev S 0 = ⊤`, so only values below `⊤` count). Merging lists which hold the first 32
levels of several sets gives the first 32 levels of their union (`merge`); striking out the greatest value over and over
yields the levels one after another (`sup_cut`, `strike_cut`); a sorted sequence without ties lists them (`sorted_lev`), and so does
a sorted sequence whose repeated values are set to `⊥` and sorted behind the others (`firsts_lev`).
-/
module

public import Mathlib.Data.EReal.Basic
public import Mathlib.Order.ConditionallyCompleteLattice.Finset
public import Mathlib.Data.Set.Finite.Lattice

@[expose] public section

noncomputable section

namespace Cert.Merge.Levels

/-- The `k`-th greatest of the distinct values of `S` below `⊤`; `⊥` when there are fewer. -/
def lev (S : Set EReal) : ℕ → EReal
  | 0 => ⊤
  | k + 1 => sSup {a | a ∈ S ∧ a < lev S k}

theorem lev_zero (S : Set EReal) : lev S 0 = ⊤ := rfl
theorem lev_succ (S : Set EReal) (k : ℕ) : lev S (k + 1) = sSup {a | a ∈ S ∧ a < lev S k} := rfl

/-- An element below one level is at most the next. -/
theorem le_lev_succ {S : Set EReal} {k : ℕ} {a : EReal} (ha : a ∈ S) (hl : a < lev S k) : a ≤ lev S (k + 1) :=
  le_sSup (a := a) ⟨ha, hl⟩

theorem lev_succ_le (S : Set EReal) (k : ℕ) : lev S (k + 1) ≤ lev S k := sSup_le fun _ h => h.2.le

/-- Of a finite set each level after the first is an element below the level before, or `⊥`. -/
theorem lev_succ_mem {S : Set EReal} (fin : S.Finite) (k : ℕ) : lev S (k + 1) = ⊥ ∨ (lev S (k + 1) ∈ S ∧ lev S (k + 1) < lev S k) := by
  rcases Set.eq_empty_or_nonempty {a | a ∈ S ∧ a < lev S k} with h | h
  · left; rw [lev_succ, h, sSup_empty]
  · right
    exact h.csSup_mem (fin.subset fun a ha => ha.1)

theorem lev_succ_lt_top {S : Set EReal} (fin : S.Finite) (k : ℕ) : lev S (k + 1) < ⊤ := by
  rcases lev_succ_mem fin k with h | h
  · rw [h]; exact bot_lt_top
  · exact h.2.trans_le le_top

/-- A greater set has greater levels. -/
theorem lev_mono {S U : Set EReal} (h : S ⊆ U) (k : ℕ) : lev S k ≤ lev U k := by
  induction k with
  | zero => exact le_refl _
  | succ k ih => exact sSup_le fun a ha => le_lev_succ (h ha.1) (ha.2.trans_le ih)

/-- `A` stands for `S`: it holds the first 32 levels of `S`, and otherwise only elements of `S` and `⊥`. -/
structure Rep (A S : Set EReal) : Prop where
  top : ∀ i < 32, lev S (i + 1) = ⊥ ∨ lev S (i + 1) ∈ A
  sub : ∀ a ∈ A, a = ⊥ ∨ a ∈ S

/-- Sets that stand for others have, together, the first 32 levels of the others' union. -/
theorem merge {ι : Type} {A S : ι → Set EReal} (h : ∀ i, Rep (A i) (S i)) (fin : ∀ i, (S i).Finite) :
    ∀ k ≤ 32, lev (⋃ i, A i) k = lev (⋃ i, S i) k := by
  intro k
  induction k with
  | zero => intro _; rfl
  | succ k ih =>
    intro hk
    have e := ih (by omega)
    refine le_antisymm (sSup_le ?_) (sSup_le ?_)
    · rintro a ⟨ha, hl⟩
      obtain ⟨i, hi⟩ := Set.mem_iUnion.1 ha
      rcases (h i).sub a hi with rfl | hs
      · exact bot_le
      · exact le_lev_succ (Set.mem_iUnion.2 ⟨i, hs⟩) (e ▸ hl)
    · rintro a ⟨ha, hl⟩
      obtain ⟨i, hi⟩ := Set.mem_iUnion.1 ha
      have hm : lev (S i) k ≤ lev (⋃ i, S i) k := lev_mono (Set.subset_iUnion S i) k
      by_cases hex : ∃ j, j ≤ k ∧ lev (S i) (j + 1) < lev (⋃ i, S i) k
      · classical
        obtain ⟨hj, hjl⟩ := Nat.find_spec hex
        generalize hJ : Nat.find hex = j at hj hjl
        have haj : a < lev (S i) j := by
          cases j with
          | zero => exact hl.trans_le le_top
          | succ j' =>
            have hn := Nat.find_min hex (m := j') (by omega)
            exact hl.trans_le (not_lt.1 fun hc => hn ⟨by omega, hc⟩)
        have hab : a ≤ lev (S i) (j + 1) := le_lev_succ hi haj
        rcases (h i).top j (by omega) with hb | hb
        · rw [hb] at hab; exact hab.trans bot_le
        · exact hab.trans (le_lev_succ (Set.mem_iUnion.2 ⟨i, hb⟩) (e ▸ hjl))
      · have hge : lev (⋃ i, S i) k ≤ lev (S i) (k + 1) := not_lt.1 fun hc => hex ⟨k, le_refl _, hc⟩
        rcases lev_succ_mem (fin i) k with hb | hb
        · rw [hb] at hge; exact absurd (hl.trans_le hge) not_lt_bot
        · exact absurd (hb.2.trans_le (hm.trans hge)) (lt_irrefl _)

theorem Rep.self {S : Set EReal} (fin : S.Finite) : Rep S S where
  top i _ := (lev_succ_mem fin i).imp id And.left
  sub _ ha := .inr ha

/-- A list of `⊥` stands for the empty set. -/
theorem Rep.bot {κ : Type} : Rep (Set.range fun _ : κ => (⊥ : EReal)) ∅ where
  top i _ := .inl (by rw [lev_succ]; simp)
  sub a := by rintro ⟨_, rfl⟩; exact .inl rfl

/-- A list with the first 32 levels of `S`, and `⊥` beyond, stands for `S`. -/
theorem Rep.list {S : Set EReal} (fin : S.Finite) {n : ℕ} (hn : 32 ≤ n) (v : Fin n → EReal)
    (h : ∀ i, v i = if i.val < 32 then lev S (i.val + 1) else ⊥) : Rep (Set.range v) S where
  top i hi := .inr ⟨⟨i, by omega⟩, by rw [h, if_pos hi]⟩
  sub a := by
    rintro ⟨i, rfl⟩
    rw [h]
    split
    · exact (lev_succ_mem fin _).imp id And.left
    · exact .inl rfl

/-- What is left of `P` when the values from `u` on are struck out. -/
def cut {κ : Type} (u : EReal) (P : κ → EReal) (j : κ) : EReal := if P j < u then P j else ⊥

variable {κ : Type} (P : κ → EReal)

/-- The greatest value left below one level is the next level. -/
theorem sup_cut (k : ℕ) : (⨆ j, cut (lev (Set.range P) k) P j) = lev (Set.range P) (k + 1) := by
  refine le_antisymm (iSup_le fun j => ?_) (sSup_le ?_)
  · unfold cut
    split
    · next h => exact le_lev_succ ⟨j, rfl⟩ h
    · exact bot_le
  · rintro a ⟨⟨j, rfl⟩, hl⟩
    exact le_iSup_of_le j (by rw [cut, if_pos hl])

/-- Striking out the next level. -/
theorem strike_cut (k : ℕ) (j : κ) :
    (if cut (lev (Set.range P) k) P j = lev (Set.range P) (k + 1) then ⊥ else cut (lev (Set.range P) k) P j) = cut (lev (Set.range P) (k + 1)) P j := by
  unfold cut
  by_cases h : P j < lev (Set.range P) k
  · have hle : P j ≤ lev (Set.range P) (k + 1) := le_lev_succ ⟨j, rfl⟩ h
    rw [if_pos h]
    by_cases he : P j = lev (Set.range P) (k + 1)
    · rw [if_pos he, if_neg (by rw [← he]; exact lt_irrefl _)]
    · rw [if_neg he, if_pos (lt_of_le_of_ne hle he)]
  · rw [if_neg h, if_neg (c := P j < lev (Set.range P) (k + 1)) fun hc => h (hc.trans_le (lev_succ_le _ _)), ite_self]

/-- Striking out `⊤`. -/
theorem strike_top (j : κ) : (if P j = ⊤ then ⊥ else P j) = cut ⊤ P j := by
  unfold cut
  by_cases h : P j = ⊤
  · rw [if_pos h, if_neg (by rw [h]; exact lt_irrefl _)]
  · rw [if_neg h, if_pos (lt_top_iff_ne_top.2 h)]

/-- A descending sequence lists the levels of its range, as far as each value is below the one before it, the first below
    `⊤`, or is `⊥`. -/
theorem sorted_lev {n : ℕ} (s : Fin n → EReal) (anti : ∀ i j, i ≤ j → s j ≤ s i) :
    ∀ (k : ℕ) (hk : k < n), (∀ i (hi : i < n), i ≤ k → s ⟨i, hi⟩ = ⊥ ∨ s ⟨i, hi⟩ < if h : i = 0 then ⊤ else s ⟨i - 1, by omega⟩) →
      s ⟨k, hk⟩ = lev (Set.range s) (k + 1) := by
  intro k
  induction k with
  | zero =>
    intro hk h
    refine le_antisymm ?_ (sSup_le ?_)
    · rcases h 0 hk (le_refl _) with hb | hl
      · rw [hb]; exact bot_le
      · exact le_lev_succ ⟨_, rfl⟩ (by simpa [lev_zero] using hl)
    · rintro a ⟨⟨j, rfl⟩, _⟩
      exact anti _ _ (Nat.zero_le _)
  | succ k ih =>
    intro hk h
    have e := ih (by omega) fun i hi hik => h i hi (by omega)
    refine le_antisymm ?_ (sSup_le ?_)
    · rcases h (k + 1) hk (le_refl _) with hb | hl
      · rw [hb]; exact bot_le
      · exact le_lev_succ ⟨_, rfl⟩ (e ▸ (by simpa using hl : s ⟨k + 1, hk⟩ < s ⟨k, by omega⟩))
    · rintro a ⟨⟨j, rfl⟩, hj⟩
      rw [← e] at hj
      refine anti _ _ ?_
      by_contra hc
      have : j.val ≤ k := by
        have : ¬ (k + 1 ≤ j.val) := hc
        omega
      exact absurd (hj.trans_le (anti _ _ this)) (lt_irrefl _)

/-- Sets which differ in `⊥` and `⊤` at most have the same levels. -/
theorem lev_congr {A S : Set EReal} (h : ∀ a ∈ A, a = ⊥ ∨ a ∈ S) (h' : ∀ a ∈ S, a < ⊤ → a ∈ A) (k : ℕ) : lev A k = lev S k := by
  induction k with
  | zero => rfl
  | succ k ih =>
    refine le_antisymm (sSup_le ?_) (sSup_le ?_)
    · rintro a ⟨ha, hl⟩
      rcases h a ha with rfl | hs
      · exact bot_le
      · exact le_lev_succ hs (ih ▸ hl)
    · rintro a ⟨ha, hl⟩
      exact le_lev_succ (h' a ha (hl.trans_le le_top)) (ih ▸ hl)

/-- A descending sequence with `⊤` and every repeated value replaced by `⊥`. -/
def firsts {n : ℕ} (s : Fin n → EReal) (i : Fin n) : EReal :=
  if s i < (if h : i.val = 0 then ⊤ else s ⟨i.val - 1, by omega⟩) then s i else ⊥

/-- Sorted again, what is left lists the levels of the sequence's range. -/
theorem firsts_lev {n : ℕ} (s : Fin n → EReal) (anti : ∀ i j, i ≤ j → s j ≤ s i) (σ : Fin n → Fin n) (inj : Function.Injective σ)
    (surj : Function.Surjective σ) (sorted : ∀ i j, i ≤ j → firsts s (σ j) ≤ firsts s (σ i)) (k : Fin n) :
    firsts s (σ k) = lev (Set.range s) (k.val + 1) := by
  have hlt : ∀ i, firsts s i ≠ ⊥ → firsts s i = s i ∧ s i < if h : i.val = 0 then ⊤ else s ⟨i.val - 1, by omega⟩ := by
    intro i hi
    unfold firsts at hi ⊢
    by_cases hc : s i < if h : i.val = 0 then ⊤ else s ⟨i.val - 1, by omega⟩
    · exact ⟨if_pos hc, hc⟩
    · exact absurd (if_neg hc) hi
  have hstep : ∀ i j : Fin n, i < j → firsts s j ≠ ⊥ → firsts s i ≠ firsts s j := by
    intro i j hij hj he
    obtain ⟨ej, lj⟩ := hlt j hj
    obtain ⟨ei, _⟩ := hlt i (he ▸ hj)
    have hj0 : j.val ≠ 0 := by have : i.val < j.val := hij; omega
    rw [dif_neg hj0] at lj
    have := anti i ⟨j.val - 1, by omega⟩ (by have : i.val < j.val := hij; show i.val ≤ j.val - 1; omega)
    rw [← ei, he, ej] at this
    exact absurd (lj.trans_le this) (lt_irrefl _)
  have hne : ∀ i j : Fin n, i ≠ j → firsts s j ≠ ⊥ → firsts s i ≠ firsts s j := by
    intro i j hij hj he
    rcases lt_or_gt_of_ne hij with h | h
    · exact hstep i j h hj he
    · exact hstep j i h (he ▸ hj) he.symm
  refine (sorted_lev (fun i => firsts s (σ i)) sorted k.val k.isLt fun i hi _ => ?_).trans (lev_congr ?_ ?_ _)
  · by_cases hb : firsts s (σ ⟨i, hi⟩) = ⊥
    · exact .inl hb
    · refine .inr ?_
      by_cases h0 : i = 0
      · rw [dif_pos h0]
        obtain ⟨e, l⟩ := hlt _ hb
        exact (e.trans_lt l).trans_le le_top
      · rw [dif_neg h0]
        refine lt_of_le_of_ne (sorted ⟨i - 1, by omega⟩ ⟨i, hi⟩ (by show i - 1 ≤ i; omega)) (hne _ _ (fun he => ?_) hb).symm
        have := congrArg Fin.val (inj he)
        have : i - 1 = i := this
        omega
  · rintro a ⟨i, rfl⟩
    by_cases hb : firsts s (σ i) = ⊥
    · exact .inl hb
    · exact .inr ⟨σ i, (hlt _ hb).1.symm⟩
  · rintro a ⟨i, rfl⟩ hi
    have hex : ∃ j, ∃ h : j < n, s ⟨j, h⟩ = s i := ⟨i.val, i.isLt, rfl⟩
    classical
    obtain ⟨hj, e⟩ := Nat.find_spec hex
    have hmin := fun m (hm : m < Nat.find hex) => Nat.find_min hex hm
    generalize Nat.find hex = j at hj e hmin
    obtain ⟨l, hl⟩ := surj ⟨j, hj⟩
    refine ⟨l, ?_⟩
    show firsts s (σ l) = s i
    rw [hl]
    unfold firsts
    rw [if_pos, e]
    by_cases h0 : j = 0
    · rw [dif_pos h0, e]; exact hi
    · rw [dif_neg h0]
      exact lt_of_le_of_ne (anti _ _ (by show j - 1 ≤ j; omega)) fun he => hmin (j - 1) (by omega) ⟨by omega, he.symm.trans e⟩

end Cert.Merge.Levels
-- ==== Proof.Pays.lean ====
/-
# 01_k — `Pays`: the body's single operations over the extended reals, read at an element
-/
module

public import proofs.«01_k».proof.Proof.Common
public import proofs.«01_k».proof.Proof.Levels
public import Idealize.ShloMosaic.Lib.Pointwise.Tactic
public import Idealize.ShloMosaic.Lib.Pointwise.Reduce
public import Idealize.ShloMosaic.Lib.Pointwise.Select
public import Idealize.ShloMosaic.Lib.Pointwise.Reshape
public import Idealize.ShloMosaic.Lib.WordArith.Masks

@[expose] public section

noncomputable section

namespace Cert.Merge

open Cert.KernelIdeal Cert.KernelIdeal.Gen
open Idealize.ShloMosaic
open Levels (lev cut)

/-- A fold of `max` from `⊥` is the supremum. -/
theorem fold_max_bot {κ : Type} [Fintype κ] (f : κ → EReal) : Finset.univ.fold max ⊥ f = ⨆ j, f j :=
  Finset.sup_univ_eq_iSup f

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- A choice on whether an element's column is the trip's. -/
theorem select_col (j k : ℕ) (hj : j < 2 ^ 32) (hk : k < 2 ^ 32) (c d : EReal) :
    Scalar.select (IntOp.cmpi CmpIPredicate.eq (BitVec.ofNat 32 j) (Scf.iv 0#32 1#32 k)) c d = if j = k then c else d := by
  have e : (Scf.iv 0#32 1#32 k) = BitVec.ofNat 32 k := by
    apply BitVec.eq_of_toNat_eq
    rw [WordArith.toNat_iv_zero_one k hk, BitVec.toNat_ofNat, Nat.mod_eq_of_lt hk]
  have h : (BitVec.ofNat 32 j = BitVec.ofNat 32 k) ↔ j = k := by
    constructor
    · intro h
      have := congrArg BitVec.toNat h
      rwa [BitVec.toNat_ofNat, BitVec.toNat_ofNat, Nat.mod_eq_of_lt hk, Nat.mod_eq_of_lt hj] at this
    · rintro rfl; rfl
  rw [e]
  show (if IntOp.cmpi .eq (BitVec.ofNat 32 j) (BitVec.ofNat 32 k) = 1#1 then c else d) = _
  exact if_congr (IntOp.cmpi_eq.trans h) rfl rfl

theorem trips1 : k0_t1_loop.trips = 32 := by decide
theorem trips2 : k0_t2_loop.trips = 32 := by decide

theorem pay13_at (a : FVec Ideal S1024x1 .f32) (p : FVec Ideal S1024x2176 .f32) (r : Fin 1024) (j : Fin 2176) :
    k0_pay13 a p p (ix2 r j) = if p (ix2 r j) = a (ix2 r 0) then ⊥ else p (ix2 r j) := by
  unfold k0_pay13
  pointwise
  rw [neg_inf]
theorem pay14_at (a : FVec Ideal S1024x1 .f32) (p : FVec Ideal S1024x2176 .f32) (r : Fin 1024) (j : Fin 2176) :
    k0_pay14 a p p (ix2 r j) = k0_pay13 a p p (ix2 r j) := by
  unfold k0_pay14
  pointwise
theorem pay15_at (a : FVec Ideal S1024x1 .f32) (p : FVec Ideal S1024x2176 .f32) (r : Fin 1024) :
    k0_pay15 a p p (ix2 r 0) = ⨆ j : Fin 2176, k0_pay13 a p p (ix2 r j) := by
  unfold k0_pay15
  pointwise
  rw [neg_inf, fold_max_bot]
theorem pay16_at (k : Fin k0_t1_loop.trips) (a : FVec Ideal S1024x1 .f32) (p : FVec Ideal S1024x2176 .f32) (b : FVec Ideal S1024x128 .f32) (r : Fin 1024) (j : Fin 128) :
    k0_pay16 k a p p b (ix2 r j) = if j.val = k.val then k0_pay15 a p p (ix2 r 0) else b (ix2 r j) := by
  unfold k0_pay16
  pointwise
  exact select_col _ _ (by omega) (by have := k.isLt; have := k0_t1_abs.2.1; omega) _ _
theorem pay1_at (g : FVec Ideal S4x1024x32 .f32) (b : FVec Ideal S1024x32 .f32) (r : Fin 1024) :
    k0_pay1 g b (ix1 r) = max (⨆ y : Fin 4, ⨆ j : Fin 32, g (ix3 y r j)) (⨆ j : Fin 32, b (ix2 r j)) := by
  unfold k0_pay1
  pointwise
  rw [neg_inf, fold_max_bot, fold_max_bot]
  simp only [fold_max_bot]
theorem pay2_at (k : Fin k0_t2_loop.trips) (g : FVec Ideal S4x1024x32 .f32) (b o : FVec Ideal S1024x32 .f32) (r : Fin 1024) (j : Fin 32) :
    k0_pay2 (iota .tc S1024x32 32 [1] iota_S1024x32_d1_w32) 0#32 1#32 k g b o (ix2 r j) = if j.val = k.val then k0_pay1 g b (ix1 r) else o (ix2 r j) := by
  unfold k0_pay2
  pointwise
  exact select_col _ _ (by omega) (by have := k.isLt; have := k0_t2_abs.2.1; omega) _ _
theorem pay3_at (g : FVec Ideal S4x1024x32 .f32) (b : FVec Ideal S1024x32 .f32) (y : Fin 4) (r : Fin 1024) (j : Fin 32) :
    k0_pay3 g b (ix3 y r j) = if g (ix3 y r j) = k0_pay1 g b (ix1 r) then ⊥ else g (ix3 y r j) := by
  unfold k0_pay3
  pointwise
  rw [neg_inf]
theorem pay4_at (g : FVec Ideal S4x1024x32 .f32) (b : FVec Ideal S1024x32 .f32) (r : Fin 1024) (j : Fin 32) :
    k0_pay4 g b (ix2 r j) = if b (ix2 r j) = k0_pay1 g b (ix1 r) then ⊥ else b (ix2 r j) := by
  unfold k0_pay4
  pointwise
  rw [neg_inf]

end Cert.Merge
-- ==== Proof.Values.lean ====
/-
# 01_k — `Values`: the kernel's result over the extended reals, element by element

Row `r`, column `k` of every device's result is level `k + 1` of the whole row's values: each device's list holds the
levels of the columns it has seen (`best_eq`), and merging the lists of the four devices which share a row's columns gives
the levels of them all (`out_eq`).
-/
module

public import proofs.«01_k».proof.Proof.Pays

@[expose] public section

noncomputable section

namespace Cert.Merge

open Cert.KernelIdeal Cert.KernelIdeal.Gen
open Idealize.ShloMosaic
open Idealize.ShloMosaic.TcCoe
open Levels (lev cut Rep)

/-! ## The selection loop -/

/-- Before trip `n` the previous maximum is level `n` of the pool's row, the pool without that maximum is the pool cut
    there, and the list holds the levels up to `n`. -/
theorem st1_inv (p : FVec Ideal S1024x2176 .f32) (r : Fin 1024) (n : ℕ) (hn : n ≤ 32) :
    (st1 p n).1 (ix2 r 0) = lev (Set.range fun j : Fin 2176 => p (ix2 r j)) n
    ∧ (∀ j : Fin 2176, k0_pay13 (st1 p n).1 (st1 p n).2.1 (st1 p n).2.1 (ix2 r j)
        = cut (lev (Set.range fun j : Fin 2176 => p (ix2 r j)) n) (fun j : Fin 2176 => p (ix2 r j)) j)
    ∧ ∀ j : Fin 128, (st1 p n).2.2 (ix2 r j) = if j.val < n then lev (Set.range fun j : Fin 2176 => p (ix2 r j)) (j.val + 1) else ⊥ := by
  induction n with
  | zero =>
    have e : (st1 p 0).1 (ix2 r 0) = ⊤ := pos_inf
    refine ⟨e, fun j => ?_, fun j => ?_⟩
    · rw [pay13_at, e, Levels.lev_zero, ← Levels.strike_top]
      rfl
    · rw [if_neg (Nat.not_lt_zero _)]
      show k0_pay11 (F := Ideal) (ix2 r j) = ⊥
      unfold k0_pay11
      pointwise
      exact neg_inf
  | succ n ih =>
    obtain ⟨h1, h2, h3⟩ := ih (by omega)
    have hs : st1 p (n + 1) = (k0_pay15 (F := Ideal) (st1 p n).1 (st1 p n).2.1 (st1 p n).2.1, k0_pay14 (F := Ideal) (st1 p n).1 (st1 p n).2.1 (st1 p n).2.1,
        k0_pay16 (F := Ideal) ⟨n, by rw [trips1]; omega⟩ (st1 p n).1 (st1 p n).2.1 (st1 p n).2.1 (st1 p n).2.2) :=
      st1_succ p ⟨n, by rw [trips1]; omega⟩
    have e1 : (st1 p (n + 1)).1 (ix2 r 0) = lev (Set.range fun j : Fin 2176 => p (ix2 r j)) (n + 1) := by
      rw [hs]
      dsimp only
      rw [pay15_at, ← Levels.sup_cut, funext h2]
    refine ⟨e1, fun j => ?_, fun j => ?_⟩
    · rw [pay13_at, e1, ← Levels.strike_cut]
      have e2 : (st1 p (n + 1)).2.1 (ix2 r j) = cut (lev (Set.range fun j : Fin 2176 => p (ix2 r j)) n) (fun j : Fin 2176 => p (ix2 r j)) j := by
        rw [hs]
        dsimp only
        rw [pay14_at, h2]
      rw [e2]
    · have e3 : (st1 p (n + 1)).2.2 (ix2 r j) = if j.val = n then (st1 p (n + 1)).1 (ix2 r 0) else (st1 p n).2.2 (ix2 r j) := by
        rw [hs]
        dsimp only
        rw [pay16_at]
      rw [e3, e1, h3]
      by_cases hj : j.val = n
      · rw [if_pos hj, if_pos (by omega), hj]
      · rw [if_neg hj]
        exact if_congr (by omega) rfl rfl

/-! ## The lists -/

variable (m : (ℓ : Loc nD τ sig) → Buf (Elt Ideal) ℓ)

/-- The values in row `r` of the chunks before point `n`. -/
def seen (c : Dev nD) (n : ℕ) (r : Fin 1024) : Set EReal :=
  {a | ∃ t : Fin cfg0.N, t.val < n ∧ ∃ j : Fin 2048, xblk m c t (ix2 r j) = a}

theorem seen_finite (c : Dev nD) (n : ℕ) (r : Fin 1024) : (seen m c n r).Finite := by
  refine (Set.finite_range fun q : Fin cfg0.N × Fin 2048 => xblk m c q.1 (ix2 r q.2)).subset ?_
  rintro a ⟨t, _, j, rfl⟩
  exact ⟨(t, j), rfl⟩

theorem pool_range (b : FVec Ideal S1024x128 .f32) (x : FVec Ideal S1024x2048 .bf16) (r : Fin 1024) :
    (Set.range fun j : Fin 2176 => poolOf b x (ix2 r j))
      = ⋃ i : Bool, bif i then Set.range (fun j : Fin 128 => b (ix2 r j)) else Set.range (fun j : Fin 2048 => x (ix2 r j)) := by
  have e : ∀ j : Fin 2176, poolOf b x (ix2 r j) = if h : j.val < 128 then b (ix2 r ⟨j.val, h⟩) else x (ix2 r ⟨j.val - 128, by omega⟩) := fun j => by
    have eb : ∀ j : Fin 128, k0_pay9 (F := Ideal) b (ix2 r j) = b (ix2 r j) := fun j => by unfold k0_pay9; pointwise
    have ex : ∀ j : Fin 2048, (k0_pay10 (F := Ideal) x (ix2 r j) : EReal) = x (ix2 r j) := fun j => by unfold k0_pay10; pointwise
    exact dite_congr rfl (fun h => eb ⟨j.val, h⟩) fun h => ex ⟨j.val - 128, by omega⟩
  ext a
  rw [Set.mem_iUnion]
  constructor
  · rintro ⟨j, rfl⟩
    by_cases h : j.val < 128
    · exact ⟨true, ⟨j.val, h⟩, by beta_reduce; rw [e, dif_pos h]⟩
    · exact ⟨false, ⟨j.val - 128, by omega⟩, by beta_reduce; rw [e, dif_neg h]⟩
  · rintro ⟨i, hi⟩
    cases i with
    | true =>
      obtain ⟨j, rfl⟩ := hi
      exact ⟨⟨j.val, by omega⟩, by beta_reduce; rw [e, dif_pos (show (⟨j.val, by omega⟩ : Fin 2176).val < 128 from j.isLt)]⟩
    | false =>
      obtain ⟨j, rfl⟩ := hi
      refine ⟨⟨128 + j.val, by omega⟩, ?_⟩
      have h : ¬ (⟨128 + j.val, by omega⟩ : Fin 2176).val < 128 := Nat.not_lt.2 (Nat.le_add_right 128 j.val)
      have e' : (⟨(⟨128 + j.val, by omega⟩ : Fin 2176).val - 128, by omega⟩ : Fin 2048) = j := Fin.ext (Nat.add_sub_cancel_left 128 j.val)
      beta_reduce
      rw [e, dif_neg h, e']

theorem seen_succ (c : Dev nD) (t : Fin cfg0.N) (r : Fin 1024) :
    seen m c (t.val + 1) r = ⋃ i : Bool, bif i then seen m c t.val r else Set.range (fun j : Fin 2048 => xblk m c t (ix2 r j)) := by
  ext a
  rw [Set.mem_iUnion]
  constructor
  · rintro ⟨t', ht, j, rfl⟩
    by_cases h : t'.val < t.val
    · exact ⟨true, t', h, j, rfl⟩
    · have : t' = t := Fin.ext (by omega)
      subst this
      exact ⟨false, j, rfl⟩
  · rintro ⟨i, hi⟩
    cases i with
    | true =>
      obtain ⟨t', ht, j, rfl⟩ := hi
      exact ⟨t', by omega, j, rfl⟩
    | false =>
      obtain ⟨j, rfl⟩ := hi
      exact ⟨t, Nat.lt_succ_self _, j, rfl⟩

theorem best_eq_of_rep (c : Dev nD) (t : Fin cfg0.N) (r : Fin 1024)
    (h : Rep (Set.range fun j : Fin 128 => bestAt m c t.val (ix2 r j)) (seen m c t.val r)) (j : Fin 128) :
    bestAt m c (t.val + 1) (ix2 r j) = if j.val < 32 then lev (seen m c (t.val + 1) r) (j.val + 1) else ⊥ := by
  rw [bestAt_succ, trips1, (st1_inv _ r 32 (le_refl _)).2.2 j]
  refine ite_congr rfl (fun hj => ?_) fun _ => rfl
  rw [pool_range, seen_succ]
  refine Levels.merge (A := fun i : Bool => bif i then Set.range (fun j : Fin 128 => bestAt m c t.val (ix2 r j)) else Set.range (fun j : Fin 2048 => xblk m c t (ix2 r j)))
    (S := fun i : Bool => bif i then seen m c t.val r else Set.range (fun j : Fin 2048 => xblk m c t (ix2 r j))) ?_ ?_ _ (by omega)
  · intro i
    cases i with
    | true => exact h
    | false => exact Rep.self (Set.finite_range _)
  · intro i
    cases i with
    | true => exact seen_finite m c _ r
    | false => exact Set.finite_range _

/-- A device's list stands for the values it has seen. -/
theorem best_rep (c : Dev nD) (r : Fin 1024) : ∀ n ≤ cfg0.N, Rep (Set.range fun j : Fin 128 => bestAt m c n (ix2 r j)) (seen m c n r) := by
  intro n
  induction n with
  | zero =>
    intro _
    have e : (fun j : Fin 128 => bestAt m c 0 (ix2 r j)) = fun _ => ⊥ := funext fun j => by
      show k0_pay7 (F := Ideal) (ix2 r j) = ⊥
      unfold k0_pay7
      pointwise
      exact neg_inf
    have e' : seen m c 0 r = ∅ := Set.eq_empty_iff_forall_notMem.2 fun a h => by
      obtain ⟨t, ht, _⟩ := h
      exact Nat.not_lt_zero _ ht
    rw [e, e']
    exact Rep.bot
  | succ n ih =>
    intro hn
    exact Rep.list (seen_finite m c _ r) (by omega) _ fun j => best_eq_of_rep m c ⟨n, by omega⟩ r (ih (by omega)) j

theorem N_eq : cfg0.N = 4 := by decide

/-- The list a device sends: the levels of the values in its columns. -/
theorem mine_eq (c : Dev nD) (r : Fin 1024) (j : Fin 32) : mine m c (ix2 r j) = lev (seen m c 4 r) (j.val + 1) := by
  have e : mine m c (ix2 r j) = bestAt m c 4 (ix2 r ⟨j.val, by omega⟩) := by
    unfold mine k0_pay5
    pointwise
    rfl
  have h := best_eq_of_rep m c ⟨3, by rw [N_eq]; omega⟩ r (best_rep m c r 3 (by rw [N_eq]; omega)) ⟨j.val, by omega⟩
  rw [e, h, if_pos j.isLt]

/-! ## The merging loop -/

/-- The values of row `r` a device merges: the gathered lists' and its own list's. -/
def pot (c : Dev nD) (r : Fin 1024) : (Fin 4 × Fin 32) ⊕ Fin 32 → EReal
  | .inl q => gath m c (ix3 q.1 r q.2)
  | .inr j => mine m c (ix2 r j)

theorem gath_self (c : Dev nD) (y : Fin 4) (h : y = yk c) (r : Fin 1024) (j : Fin 32) : gath m c (ix3 y r j) = ⊥ := by
  refine (if_pos (c := ((ix3 y r j : S4x1024x32.Idx) 0).val = (yk c).val) (congrArg Fin.val h)).trans ?_
  unfold k0_pay8
  pointwise
  exact neg_inf

theorem gath_peer (c : Dev nD) (y : Fin 4) (h : y ≠ yk c) (r : Fin 1024) (j : Fin 32) :
    gath m c (ix3 y r j) = lev (seen m (peer c y) 4 r) (j.val + 1) :=
  (if_neg (c := ((ix3 y r j : S4x1024x32.Idx) 0).val = (yk c).val) (fun e => h (Fin.ext e))).trans (mine_eq m (peer c y) r j)

theorem pot_lt_top (c : Dev nD) (r : Fin 1024) (q) : pot m c r q < ⊤ := by
  rcases q with ⟨y, j⟩ | j
  · show gath m c (ix3 y r j) < ⊤
    by_cases h : y = yk c
    · rw [gath_self m c y h]; exact bot_lt_top
    · rw [gath_peer m c y h]; exact Levels.lev_succ_lt_top (seen_finite m _ _ r) _
  · show mine m c (ix2 r j) < ⊤
    rw [mine_eq]; exact Levels.lev_succ_lt_top (seen_finite m _ _ r) _

/-- Before trip `n` the gathered lists and the own list are cut at level `n`, and the result holds the levels up to `n`. -/
theorem st2_inv (c : Dev nD) (r : Fin 1024) (n : ℕ) (hn : n ≤ 32) :
    (∀ (y : Fin 4) (j : Fin 32), (st2 m c n).2.1 (ix3 y r j) = cut (lev (Set.range (pot m c r)) n) (pot m c r) (.inl (y, j)))
    ∧ (∀ j : Fin 32, (st2 m c n).2.2 (ix2 r j) = cut (lev (Set.range (pot m c r)) n) (pot m c r) (.inr j))
    ∧ ∀ j : Fin 32, (st2 m c n).1 (ix2 r j) = if j.val < n then lev (Set.range (pot m c r)) (j.val + 1) else ⊥ := by
  induction n with
  | zero =>
    refine ⟨fun y j => (if_pos (pot_lt_top m c r (.inl (y, j)))).symm, fun j => (if_pos (pot_lt_top m c r (.inr j))).symm, fun j => ?_⟩
    rw [if_neg (Nat.not_lt_zero _)]
    show k0_pay6 (F := Ideal) (ix2 r j) = ⊥
    unfold k0_pay6
    pointwise
    exact neg_inf
  | succ n ih =>
    obtain ⟨h1, h2, h3⟩ := ih (by omega)
    have hs := st2_succ m c (⟨n, by rw [trips2]; omega⟩ : Fin k0_t2_loop.trips)
    have hm : (k0_pay1 (F := Ideal) (st2 m c n).2.1 (st2 m c n).2.2 (ix1 r) : EReal) = lev (Set.range (pot m c r)) (n + 1) := by
      rw [pay1_at, ← Levels.sup_cut, iSup_sum, iSup_prod]
      exact congrArg₂ max (iSup_congr fun y => iSup_congr fun j => h1 y j) (iSup_congr h2)
    refine ⟨fun y j => ?_, fun j => ?_, fun j => ?_⟩
    · rw [hs]
      show k0_pay3 (F := Ideal) (st2 m c n).2.1 (st2 m c n).2.2 (ix3 y r j) = _
      rw [pay3_at, hm, h1]
      exact Levels.strike_cut _ _ _
    · rw [hs]
      show k0_pay4 (F := Ideal) (st2 m c n).2.1 (st2 m c n).2.2 (ix2 r j) = _
      rw [pay4_at, hm, h2]
      exact Levels.strike_cut _ _ _
    · rw [hs]
      refine (pay2_at ⟨n, by rw [trips2]; omega⟩ (st2 m c n).2.1 (st2 m c n).2.2 (st2 m c n).1 r j).trans ?_
      rw [hm, h3]
      by_cases hj : j.val = n
      · rw [if_pos hj, if_pos (by omega), hj]
      · rw [if_neg hj]
        exact if_congr (by omega) rfl rfl

/-- The values in row `r` of all four devices' columns. -/
def whole (c : Dev nD) (r : Fin 1024) : Set EReal := ⋃ y : Fin 4, seen m (peer c y) 4 r

theorem peer_self (c : Dev nD) : peer c (yk c) = c := by revert c; decide

/-- A device's result: the levels of the whole row. -/
theorem outAt_eq (c : Dev nD) (r : Fin 1024) (k : Fin 32) : outAt m c (ix2 r k) = lev (whole m c r) (k.val + 1) := by
  have e := (st2_inv m c r 32 (le_refl _)).2.2 k
  rw [if_pos k.isLt] at e
  unfold outAt
  rw [trips2, e]
  have hA : Set.range (pot m c r) = ⋃ o : Option (Fin 4), (match o with
      | none => Set.range fun j : Fin 32 => mine m c (ix2 r j)
      | some y => Set.range fun j : Fin 32 => gath m c (ix3 y r j)) := by
    ext a
    rw [Set.mem_iUnion]
    constructor
    · rintro ⟨⟨y, j⟩ | j, rfl⟩
      · exact ⟨some y, j, rfl⟩
      · exact ⟨none, j, rfl⟩
    · rintro ⟨_ | y, j, rfl⟩
      · exact ⟨.inr j, rfl⟩
      · exact ⟨.inl (y, j), rfl⟩
  have hS : whole m c r = ⋃ o : Option (Fin 4), (match o with
      | none => seen m c 4 r
      | some y => if y = yk c then ∅ else seen m (peer c y) 4 r) := by
    ext a
    unfold whole
    rw [Set.mem_iUnion, Set.mem_iUnion]
    constructor
    · rintro ⟨y, hy⟩
      by_cases h : y = yk c
      · subst h
        rw [peer_self] at hy
        exact ⟨none, hy⟩
      · refine ⟨some y, ?_⟩
        show a ∈ if y = yk c then ∅ else seen m (peer c y) 4 r
        rwa [if_neg h]
    · rintro ⟨_ | y, hy⟩
      · exact ⟨yk c, by rw [peer_self]; exact hy⟩
      · refine ⟨y, ?_⟩
        by_cases h : y = yk c
        · have hy' : a ∈ if y = yk c then ∅ else seen m (peer c y) 4 r := hy
          rw [if_pos h] at hy'
          exact absurd hy' (Set.notMem_empty _)
        · have hy' : a ∈ if y = yk c then ∅ else seen m (peer c y) 4 r := hy
          rwa [if_neg h] at hy'
  rw [hA, hS]
  refine Levels.merge ?_ ?_ _ (by omega)
  · rintro (_ | y)
    · exact Rep.list (seen_finite m _ _ r) (le_refl _) _ fun j => by rw [if_pos j.isLt]; exact mine_eq m c r j
    · show Rep (Set.range fun j : Fin 32 => gath m c (ix3 y r j)) (if y = yk c then ∅ else seen m (peer c y) 4 r)
      by_cases h : y = yk c
      · rw [if_pos h, show (fun j : Fin 32 => gath m c (ix3 y r j)) = fun _ => ⊥ from funext fun j => gath_self m c y h r j]
        exact Rep.bot
      · rw [if_neg h]
        exact Rep.list (seen_finite m _ _ r) (le_refl _) _ fun j => by rw [if_pos j.isLt]; exact gath_peer m c y h r j
  · rintro (_ | y)
    · exact seen_finite m _ _ r
    · show (if y = yk c then (∅ : Set EReal) else seen m (peer c y) 4 r).Finite
      split
      · exact Set.finite_empty
      · exact seen_finite m _ _ r

end Cert.Merge
-- ==== Proof.Array.lean ====
/-
# 01_k — `Array`: the arrays the kernel reads and leaves, as parts of the whole array
-/
module

public import proofs.«01_k».proof.Proof.Run
public import proofs.«01_k».proof.Proof.Values

@[expose] public section

noncomputable section

namespace Cert.Merge

open Cert.KernelIdeal Cert.KernelIdeal.Gen
open Idealize.ShloMosaic
open Idealize.ShloMosaic.TcCoe
open Levels (lev cut Rep)

/-- The result array after the run holds what the last grid point leaves in the staging buffer. -/
theorem finalA_o {F : FTy → Type} [FloatOps F] (m : (ℓ : Loc nD τ sig) → Buf (Elt F) ℓ) (ρ : Dev nD → PrngReg) (c : Dev nD) :
    finalA m ρ c (1 : Fin 2) = outAt m c := by
  have h : (win0_1.blk (3 : Fin 4)).view.read (Elt F) (finalA m ρ c (1 : Fin 2)) = outAt m c := by
    unfold finalA
    rw [show cfg0.N = ((3 : Fin 4) : Fin cfg0.N).val + 1 from rfl, (dats m ρ 0 c).arrAt_succ (1 : Fin 2) (3 : Fin 4)]
    rw [if_pos ((flush0_1 (3 : Fin 4)).2 rfl)]
    exact View.read_write_univ _ _
  have hz : (fun a => (win0_1.index (3 : Fin 4)) a * main_v1.ty.shape.size a) = fun _ => 0 :=
    funext fun a => by fin_cases a <;> decide
  rw [← h]
  exact (Memref.read_access_unit_zero (Elt F) main_v1 hz (fun a => by fin_cases a <;> decide) _).symm

/-- The chunk's column block at point `t` is the `t`-th. -/
theorem xblk_col : ∀ (t : Fin cfg0.N) (a : Fin 2), win0_0.index t a = if a.val = 0 then 0 else t.val := by
  decide +kernel

/-- Where an element of the chunk lies in the device's array. -/
theorem xblk_emb (t : Fin cfg0.N) (r : Fin 1024) (j : Fin 2048) (a : Fin 2) :
    ((win0_0.blk t).view.emb (ix2 r j) a).val = win0_0.index t a * S1024x2048.size a + (ix2 r j a).val := by
  show win0_0.index t a * S1024x2048.size a + 1 * (ix2 r j a).val = _
  rw [Nat.one_mul]

/-- The chunk at point `t`: the columns from `2048 t` on of the device's array. -/
theorem xblk_at {F : FTy → Type} [FloatOps F] (m : (ℓ : Loc nD τ sig) → Buf (Elt F) ℓ) (c : Dev nD) (t : Fin cfg0.N) (r : Fin 1024) (j : Fin 2048) :
    xblk m c t (ix2 r j) = (m ((c : Thread nD τ).loc main_arg0) : S1024x8192.Idx → Elt F .bf16) (ix2 r ⟨2048 * t.val + j.val, by have : t.val < 4 := t.isLt; omega⟩) := by
  show m ((c : Thread nD τ).loc main_arg0) ((win0_0.blk t).view.emb (ix2 r j)) = _
  congr 1
  funext a
  apply Fin.ext
  have ht : t.val < 4 := t.isLt
  rw [xblk_emb t r j a, xblk_col t a]
  fin_cases a
  · show 0 * 1024 + r.val = r.val
    omega
  · show t.val * 2048 + j.val = 2048 * t.val + j.val
    omega

variable (m : (ℓ : Loc nD τ sig) → Buf (Elt Ideal) ℓ) (X : (⟨2, ![1024, 32768]⟩ : Shape).Idx → EReal)

/-- Peer `y` lies in column `y` of its mesh group. -/
theorem peer_col : ∀ (c : Dev nD) (y : Fin 4), (peer c y).val / 4 % 4 = y.val := by
  decide +kernel

/-- A device's part of the whole array: all rows, the quarter of the columns named by the device's second coordinate. -/
theorem block_at {α : Type} (c : Dev nD) (Y : (⟨2, ![1024, 32768]⟩ : Shape).Idx → α) (r : Fin 1024) (q : Fin 8192) (p : Fin 32768)
    (hp : p.val = 8192 * (c.val / 4 % 4) + q.val) :
    (Layout.blockN ⟨2, ![1024, 8192]⟩ ⟨2, ![1024, 32768]⟩ (Layout.meshBlock [2, 4, 4] ![[], [1]] c) Y : (⟨2, ![1024, 8192]⟩ : Shape).Idx → α) (ix2 r q) = Y (ix2 r p) := by
  rw [Layout.blockN_apply]
  refine congrArg Y (funext fun a => Fin.ext ?_)
  rw [Layout.TilesN.idx_val, Layout.meshBlock_val]
  match a with
  | ⟨0, _⟩ =>
    show 0 * 1024 + r.val = r.val
    omega
  | ⟨1, _⟩ =>
    show (c.val / 4 % 4 * 1 + 0) * 8192 + q.val = p.val
    omega

/-- The values in row `r` of the whole array are those of the four devices' columns. -/
theorem whole_eq (hX : ∀ c : Dev nD, m ((c : Thread nD τ).loc main_arg0)
      = Layout.blockN ⟨2, ![1024, 8192]⟩ ⟨2, ![1024, 32768]⟩ (Layout.meshBlock [2, 4, 4] ![[], [1]] c) X) (c : Dev nD) (r : Fin 1024) :
    whole m c r = Set.range fun j : Fin 32768 => X (ix2 r j) := by
  have e : ∀ (y : Fin 4) (t : Fin cfg0.N) (j : Fin 2048), (xblk m (peer c y) t (ix2 r j) : EReal)
      = X (ix2 r ⟨8192 * y.val + (2048 * t.val + j.val), by have : t.val < 4 := t.isLt; omega⟩) := by
    intro y t j
    rw [xblk_at, hX]
    exact block_at (peer c y) X r ⟨2048 * t.val + j.val, by have : t.val < 4 := t.isLt; omega⟩ ⟨8192 * y.val + (2048 * t.val + j.val), by have : t.val < 4 := t.isLt; omega⟩ (by rw [peer_col])
  ext a
  unfold whole
  rw [Set.mem_iUnion]
  constructor
  · rintro ⟨y, t, _, j, rfl⟩
    exact ⟨_, (e y t j).symm⟩
  · rintro ⟨j, rfl⟩
    refine ⟨⟨j.val / 8192, by omega⟩, ⟨j.val % 8192 / 2048, by rw [N_eq]; omega⟩, by show j.val % 8192 / 2048 < 4; omega, ⟨j.val % 2048, by omega⟩, ?_⟩
    rw [e]
    beta_reduce
    congr 2
    exact Fin.ext (by show 8192 * (j.val / 8192) + (2048 * (j.val % 8192 / 2048) + j.val % 2048) = j.val; omega)

end Cert.Merge
-- ==== Proof.Reference.lean ====
/-
# 01_k — `Reference`: the reference's result, element by element, and what its mask says

Row `r` of the reference's result lists the row's values in the order of its sort (`result_at`). Where the mask is 1 at
column `k`, the first `k + 1` of them decrease strictly below `+inf`, and then entry `k` is level `k + 1` of the row
(`result_lev`).
-/
module

public import proofs.«01_k».proof.Proof.Levels
public import proofs.«01_k».proof.Proof.Gen.ReferenceIdeal.Run
public import proofs.«01_k».proof.Proof.Gen.On_untied
public import Idealize.ShloMosaic.Lib.ReduceAll
public import Idealize.ShloMosaic.Lib.SortFacts
public import Idealize.ShloMosaic.Lib.ValueIdxCore
public import Idealize.ShloMosaic.Lib.Pointwise.Tactic
public import Idealize.ShloMosaic.Lib.Pointwise.Reduce
public import Idealize.ShloMosaic.Lib.Pointwise.Select
public import Idealize.ShloMosaic.Lib.Pointwise.Reshape

@[expose] public section

noncomputable section

namespace Cert.Merge.Reference

open Cert.ReferenceIdeal Cert.ReferenceIdeal.Gen
open Idealize.ShloMosaic
open Cert.Merge.Levels (lev)

/-! ## Picking the listed columns -/

/-- The word of a column, read as a signed number, is the column. -/
theorem word_toInt (p : Fin 32768) : (BitVec.ofNat 32 p.val).toInt = p.val := by
  have := p.isLt
  have e : (BitVec.ofNat 32 p.val).toNat = p.val := by rw [BitVec.toNat_ofNat]; omega
  rw [BitVec.toInt_eq_toNat_cond, if_pos (by omega), e]

/-- Picking one column per row and position: the operand at the picked column. -/
theorem gather_at {α : Type} (x : S1024x32768.Idx → α) (J : IVec S1024x32x1 32) (r : Fin 1024) (k : Fin 32) (p : Fin 32768)
    (hJ : J (ix3 r k 0) = BitVec.ofNat 32 p.val) :
    Host.gather gather_S1024x32768_S1024x32x1_S1024x32_n_1_0_0_1_2_11 x J (ix2 r k) = x (ix2 r p) := by
  have hp : (BitVec.ofNat 32 p.val).toInt.toNat = p.val := by rw [word_toInt]; rfl
  unfold Host.gather
  refine congrArg x (funext fun a => Fin.ext ?_)
  have h01 : a = 0 ∨ a = 1 := by
    match a with
    | ⟨0, _⟩ => exact Or.inl rfl
    | ⟨1, _⟩ => exact Or.inr rfl
  show GatherDims.start _ (ix2 r k) J a + GatherDims.batchCoord _ (ix2 r k) a + GatherDims.offCoord _ (ix2 r k) a = _
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S1024x32768_S1024x32x1_S1024x32_n_1_0_0_1_2_11.operandBatchingDims from List.mem_singleton.mpr rfl)]
    show 0 + r.val + 0 = r.val
    omega
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S1024x32768_S1024x32x1_S1024x32_n_1_0_0_1_2_11.startIndexMap from List.mem_singleton.mpr rfl)]
    have hsi : gather_S1024x32768_S1024x32x1_S1024x32_n_1_0_0_1_2_11.siIdx (ix2 r k) ⟨List.idxOf (1 : Fin 2) gather_S1024x32768_S1024x32x1_S1024x32_n_1_0_0_1_2_11.startIndexMap,
        List.idxOf_lt_length_iff.2 (List.mem_singleton.mpr rfl)⟩ = ix3 r k 0 := by
      funext b
      refine Fin.ext ?_
      match b with
      | ⟨0, _⟩ => rfl
      | ⟨1, _⟩ => rfl
      | ⟨2, _⟩ => rfl
    have e : J (gather_S1024x32768_S1024x32x1_S1024x32_n_1_0_0_1_2_11.siIdx (ix2 r k) ⟨List.idxOf (1 : Fin 2) gather_S1024x32768_S1024x32x1_S1024x32_n_1_0_0_1_2_11.startIndexMap,
        List.idxOf_lt_length_iff.2 (List.mem_singleton.mpr rfl)⟩) = BitVec.ofNat 32 p.val := by rw [hsi, hJ]
    show min (J _).toInt.toNat (32768 - 1) + 0 + 0 = p.val
    have := p.isLt
    rw [e, hp]
    omega

/-- The positions as the reference passes them to the picking: a negative one moved up by the row's length. -/
def wrap (I : IVec S1024x32 32) : IVec S1024x32x1 32 :=
  shapeCast _ (select (cmpi .slt I (broadcastInDim S1024x32 ![] bcast_S_S1024x32 (constantI S_ 32 0#32))) (addi I (broadcastInDim S1024x32 ![] bcast_S_S1024x32 (constantI S_ 32 32768#32))) I) shapeCasts_S1024x32_S1024x32x1

/-- The word of a column is not negative, and at most the last column's. -/
theorem word_range (p : Fin 32768) : IntOp.cmpi .slt (BitVec.ofNat 32 p.val) 0#32 = 0#1
    ∧ IntOp.cmpi .sge (BitVec.ofNat 32 p.val) 0#32 = 1#1 ∧ IntOp.cmpi .sle (BitVec.ofNat 32 p.val) 32767#32 = 1#1 := by
  have := p.isLt
  have h := word_toInt p
  have h0 : (0#32).toInt = 0 := by decide
  have h1 : (32767#32).toInt = 32767 := by decide
  refine ⟨?_, ?_, ?_⟩
  · show BitVec.ofBool (decide ((BitVec.ofNat 32 p.val).toInt < (0#32).toInt)) = 0#1
    rw [decide_eq_false (by omega)]
    rfl
  · show BitVec.ofBool (decide ((0#32).toInt ≤ (BitVec.ofNat 32 p.val).toInt)) = 1#1
    rw [decide_eq_true (by omega)]
    rfl
  · show BitVec.ofBool (decide ((BitVec.ofNat 32 p.val).toInt ≤ (32767#32).toInt)) = 1#1
    rw [decide_eq_true (by omega)]
    rfl

/-- A column's word is passed as it is. -/
theorem wrap_at (I : IVec S1024x32 32) (r : Fin 1024) (k : Fin 32) (p : Fin 32768) (hI : I (ix2 r k) = BitVec.ofNat 32 p.val) :
    wrap I (ix3 r k 0) = BitVec.ofNat 32 p.val := by
  have e : wrap I (ix3 r k 0) = Scalar.select (IntOp.cmpi .slt (I (ix2 r k)) 0#32) (IntOp.addi (I (ix2 r k)) 32768#32) (I (ix2 r k)) := by
    unfold wrap
    pointwise
  rw [e, hI, (word_range p).1]
  rfl

/-- The entries picked, not-a-number where the position is out of range. -/
def take {F : FTy → Type} [FloatOps F] (x : FVec F S1024x32768 .f32) (I : IVec S1024x32 32) : FVec F S1024x32 .f32 :=
  select (Host.reduce IntOp.andi (andi (cmpi .sge (wrap I) (broadcastInDim S1024x32x1 ![] bcast_S_S1024x32x1 (constantI S_ 32 0#32)))
      (cmpi .sle (wrap I) (broadcastInDim S1024x32x1 ![0, 1, 2] bcast_S1x1x1_S1024x32x1_0_1_2 (broadcastInDim S1x1x1 ![2] bcast_S1_S1x1x1_2 (constantI S1 32 32767#32)))))
      (constantI S_ 1 1#1) reducesTo_S1024x32x1_S1024x32_d2 h_S_)
    (Host.gather gather_S1024x32768_S1024x32x1_S1024x32_n_1_0_0_1_2_11 x (wrap I)) (broadcastInDim S1024x32 ![] bcast_S_S1024x32 (constant S_ .f32 0x7FC00000#32))

/-- Where every position is a column's word, the entry of that column. -/
theorem take_at {F : FTy → Type} [FloatOps F] (x : FVec F S1024x32768 .f32) (I : IVec S1024x32 32) (P : Fin 1024 → Fin 32 → Fin 32768)
    (hI : ∀ r k, I (ix2 r k) = BitVec.ofNat 32 (P r k).val) (r : Fin 1024) (k : Fin 32) : take x I (ix2 r k) = x (ix2 r (P r k)) := by
  have e : ∀ i, (andi (cmpi .sge (wrap I) (broadcastInDim S1024x32x1 ![] bcast_S_S1024x32x1 (constantI S_ 32 0#32)))
      (cmpi .sle (wrap I) (broadcastInDim S1024x32x1 ![0, 1, 2] bcast_S1x1x1_S1024x32x1_0_1_2 (broadcastInDim S1x1x1 ![2] bcast_S1_S1x1x1_2 (constantI S1 32 32767#32))))) i = 1#1 := by
    intro i
    have hi : i = ix3 (i 0) (i 1) 0 := by
      funext a
      match a with
      | ⟨0, _⟩ => rfl
      | ⟨1, _⟩ => rfl
      | ⟨2, _⟩ => exact Fin.ext (by have : (i 2).val < 1 := (i 2).isLt; show (i 2).val = 0; omega)
    have hw : wrap I i = BitVec.ofNat 32 (P (i 0) (i 1)).val := by rw [hi]; exact wrap_at I _ _ _ (hI _ _)
    obtain ⟨_, h1, h2⟩ := word_range (P (i 0) (i 1))
    show IntOp.andi (IntOp.cmpi .sge (wrap I i) 0#32) (IntOp.cmpi .sle (wrap I i) 32767#32) = 1#1
    rw [hw, h1, h2]
    rfl
  unfold take
  show Scalar.select (Host.reduce IntOp.andi _ _ _ _ (ix2 r k)) (Host.gather _ x (wrap I) (ix2 r k)) _ = _
  rw [Host.reduce_andi_one _ _ _ _ _ rfl e, gather_at x (wrap I) r k (P r k) (wrap_at I r k _ (hI r k))]
  rfl

/-! ## The order of the sort -/

/-- The order both programs sort a row in: a greater value first. -/
def before (X : S1024x32768.Idx → EReal) (r : Fin 1024) : Fin 32768 → Fin 32768 → Bool :=
  fun a b => decide (-X (ix2 r a) < -X (ix2 r b))

/-- The column of the row's `k`-th value in that order. -/
def col (X : S1024x32768.Idx → EReal) (r : Fin 1024) : Fin 32768 → Fin 32768 := sortedFrom (before X r)

/-- The key a value is compared by is the value: the comparison spells zero and not-a-number in one way each. -/
theorem value_key (x : EReal) : Scalar.select (Ideal.cmp .une x x) (FloatOps.ofBits (F := Ideal) .f32 0x7FC00000#32 : EReal)
      (Scalar.select (Ideal.cmp .oeq x (FloatOps.ofBits (F := Ideal) .f32 0x00000000#32)) (FloatOps.ofBits (F := Ideal) .f32 0x00000000#32 : EReal) x) = x := by
  have h : Ideal.cmp .une x x = 0#1 := by
    show BitVec.ofBool (decide (x ≠ x)) = 0#1
    rw [decide_eq_false (not_not.2 rfl)]
    rfl
  rw [h]
  show Scalar.select (BitVec.ofBool (decide (x = FloatOps.ofBits (F := Ideal) .f32 0x00000000#32))) (FloatOps.ofBits (F := Ideal) .f32 0x00000000#32 : EReal) x = x
  by_cases hx : x = FloatOps.ofBits (F := Ideal) .f32 0x00000000#32
  · rw [decide_eq_true hx]
    exact hx.symm
  · rw [decide_eq_false hx]
    rfl

/-- A bit of a truth value is 1 when it is true. -/
theorem ofBool_beq (b : Bool) : (BitVec.ofBool b == 1#1) = b := by
  cases b <;> rfl

/-- An index with its column replaced. -/
theorem along_at (r : Fin 1024) (k a : Fin 32768) : (ix2 r k : S1024x32768.Idx).along 1 a = ix2 r a := by
  funext b
  have h01 : b = 0 ∨ b = 1 := by
    match b with
    | ⟨0, _⟩ => exact Or.inl rfl
    | ⟨1, _⟩ => exact Or.inr rfl
  unfold Shape.Idx.along
  rcases h01 with rfl | rfl
  · exact Function.update_of_ne (show (0 : Fin 2) ≠ 1 by decide) _ _
  · exact Function.update_self _ _ _

/-- The reference's comparison of two (value, column) pairs compares the values. -/
theorem cmp_at (a b : EReal) (i j : BitVec 32) :
    comparator_f32_i32_d1 (F := Ideal) (a, i) (b, j) = BitVec.ofBool (decide (a < b)) := by
  show Ideal.cmp .olt _ _ = _
  exact congrArg₂ (Ideal.cmp .olt) (value_key a) (value_key b)

/-- The mask's comparison of two values, the same. -/
theorem cmp_at' (a b : EReal) : On_untied.comparator_f32_d1 (F := Ideal) a b = BitVec.ofBool (decide (a < b)) := by
  show Ideal.cmp .olt _ _ = _
  exact congrArg₂ (Ideal.cmp .olt) (value_key a) (value_key b)

/-- The columns the reference sorts along. -/
theorem sort2_at (X : S1024x32768.Idx → EReal) (r : Fin 1024) (k : Fin 32768) :
    (Host.sort2 S1024x32768 1 (comparator_f32_i32_d1 (F := Ideal)) (Host.negf (F := Ideal) (φ := .f32) X) (iotaInDim S1024x32768 32 1)).2 (ix2 r k)
      = BitVec.ofNat 32 (col X r k).val := by
  have e : (fun a b : Fin 32768 => comparator_f32_i32_d1 (F := Ideal)
      (Host.negf (F := Ideal) (φ := .f32) X ((ix2 r k : S1024x32768.Idx).along 1 a), iotaInDim S1024x32768 32 1 ((ix2 r k : S1024x32768.Idx).along 1 a))
      (Host.negf (F := Ideal) (φ := .f32) X ((ix2 r k : S1024x32768.Idx).along 1 b), iotaInDim S1024x32768 32 1 ((ix2 r k : S1024x32768.Idx).along 1 b)) == 1#1)
      = before X r := by
    funext a b
    rw [cmp_at, ofBool_beq, along_at, along_at]
    rfl
  unfold Host.sort2
  rw [dif_pos (show (1 : ℕ) < S1024x32768.rank by decide)]
  show iotaInDim S1024x32768 32 1 ((ix2 r k : S1024x32768.Idx).along 1 (sortedFrom (fun a b : Fin 32768 => _) k)) = _
  exact (congrArg (iotaInDim S1024x32768 32 1) (along_at r k _)).trans (congrArg (fun R => BitVec.ofNat 32 (sortedFrom R k).val) e)

/-- The values the mask sorts. -/
theorem sort_at (X : S1024x32768.Idx → EReal) (r : Fin 1024) (k : Fin 32768) :
    (Host.sort S1024x32768 1 (On_untied.comparator_f32_d1 (F := Ideal)) (Host.negf (F := Ideal) (φ := .f32) X)) (ix2 r k)
      = -X (ix2 r (col X r k)) := by
  have e : (fun a b : Fin 32768 => On_untied.comparator_f32_d1 (F := Ideal)
      (Host.negf (F := Ideal) (φ := .f32) X ((ix2 r k : S1024x32768.Idx).along 1 a))
      (Host.negf (F := Ideal) (φ := .f32) X ((ix2 r k : S1024x32768.Idx).along 1 b)) == 1#1)
      = before X r := by
    funext a b
    rw [cmp_at', ofBool_beq, along_at, along_at]
    rfl
  unfold Host.sort
  rw [dif_pos (show (1 : ℕ) < S1024x32768.rank by decide)]
  show -X ((ix2 r k : S1024x32768.Idx).along 1 (sortedFrom (fun a b : Fin 32768 => _) k)) = _
  exact (congrArg (fun i => -X i) (along_at r k _)).trans (congrArg (fun R => -X (ix2 r (sortedFrom R k))) e)

/-- The row in that order decreases. -/
theorem col_anti (X : S1024x32768.Idx → EReal) (r : Fin 1024) (i j : Fin 32768) (h : i ≤ j) : X (ix2 r (col X r j)) ≤ X (ix2 r (col X r i)) := by
  rcases h.eq_or_lt with rfl | h
  · exact le_rfl
  · have := sortedFrom_noInversion (before X r) (before X r)
      (fun a b h => decide_eq_false (not_lt.2 (of_decide_eq_true h).le)) (fun a b h => h)
      (fun a b c h h' => decide_eq_false (not_lt.2 ((not_lt.1 (of_decide_eq_false h')).trans (not_lt.1 (of_decide_eq_false h))))) i j h
    exact EReal.neg_le_neg_iff.1 (not_lt.1 (of_decide_eq_false this))

/-- It lists all the row's values. -/
theorem col_range (X : S1024x32768.Idx → EReal) (r : Fin 1024) :
    (Set.range fun k => X (ix2 r (col X r k))) = Set.range fun j => X (ix2 r j) :=
  (sortedFrom_surjective (before X r)).range_comp fun j => X (ix2 r j)

/-- The first columns of an array. -/
theorem slice_at {α : Type} (Y : S1024x32768.Idx → α) (h : S1024x32768.Slices ![0, 0] S1024x32) (r : Fin 1024) (k : Fin 32) :
    extractStridedSlice S1024x32 ![0, 0] Y h (ix2 r k) = Y (ix2 r ⟨k.val, k.isLt.trans (by decide)⟩) := by
  unfold extractStridedSlice
  refine congrArg Y (funext fun a => Fin.ext ?_)
  match a with
  | ⟨0, _⟩ => exact Nat.zero_add _
  | ⟨1, _⟩ => exact Nat.zero_add _

/-- The reference's result from the whole array. -/
def result (X : S1024x32768.Idx → EReal) : FVec Ideal S1024x32 .f32 :=
  take (F := Ideal) (extf (F := Ideal) (φ := .bf16) .f32 X bitsLt_bf16_f32)
    (extractStridedSlice S1024x32 ![0, 0] ((Host.sort2 S1024x32768 1 (comparator_f32_i32_d1 (F := Ideal)) (Host.negf (F := Ideal) (extf (F := Ideal) (φ := .bf16) .f32 X bitsLt_bf16_f32)) (iotaInDim S1024x32768 32 1)).2) slices_S1024x32768_S1024x32_0_0)

/-- Widening the values changes nothing here. -/
theorem result_eq (X : S1024x32768.Idx → EReal) : result X = take (F := Ideal) X
    (extractStridedSlice S1024x32 ![0, 0] ((Host.sort2 S1024x32768 1 (comparator_f32_i32_d1 (F := Ideal)) (Host.negf (F := Ideal) (φ := .f32) X) (iotaInDim S1024x32768 32 1)).2) slices_S1024x32768_S1024x32_0_0) := by
  unfold result
  rw [show extf (F := Ideal) (φ := .bf16) .f32 X bitsLt_bf16_f32 = X from rfl]

/-- The column of the `k`-th value listed. -/
def pos (X : S1024x32768.Idx → EReal) (r : Fin 1024) (k : Fin 32) : Fin 32768 := col X r ⟨k.val, by omega⟩

/-- The columns the reference lists. -/
theorem listed_at (X : S1024x32768.Idx → EReal) (r : Fin 1024) (k : Fin 32) :
    extractStridedSlice S1024x32 ![0, 0] ((Host.sort2 S1024x32768 1 (comparator_f32_i32_d1 (F := Ideal)) (Host.negf (F := Ideal) (φ := .f32) X) (iotaInDim S1024x32768 32 1)).2) slices_S1024x32768_S1024x32_0_0 (ix2 r k)
      = BitVec.ofNat 32 (pos X r k).val := by
  rw [slice_at]
  exact sort2_at X r ⟨k.val, by omega⟩

/-- The entries of the result, in the order of the sort. -/
theorem result_at (X : S1024x32768.Idx → EReal) (r : Fin 1024) (k : Fin 32) :
    result X (ix2 r k) = X (ix2 r (pos X r k)) := by
  rw [result_eq]
  exact take_at (F := Ideal) X _ (pos X) (listed_at X) r k

/-- A truth value's bit, joined with 0, is 1 only if it is true. -/
theorem of_bit (p : Prop) [Decidable p] (h : IntOp.ori (BitVec.ofBool (decide p)) 0#1 = 1#1) : p := by
  by_contra hp
  rw [decide_eq_false hp] at h
  exact absurd h (by decide)

/-- What a mask computed from a list of values says where it is 1. -/
theorem mask_read (V : FVec Ideal S1024x32 .f32) (r : Fin 1024) (k : Fin 32)
    (h : Host.reduce IntOp.andi (ori
        (broadcastInDim On_untied.S1024x32x32 ![0, 1, 2] On_untied.Gen.facts.bcast_S1024x1x32_S1024x32x32_0_1_2
          (broadcastInDim On_untied.S1024x1x32 ![0, 2] On_untied.Gen.facts.bcast_S1024x32_S1024x1x32_0_2
            (cmpf .olt V (concatenate S1024x32 1 [⟨On_untied.S1024x1, broadcastInDim On_untied.S1024x1 ![] On_untied.Gen.facts.bcast_S_S1024x1 (constant (F := Ideal) S_ .f32 0x7F800000#32)⟩,
              ⟨On_untied.S1024x31, extractStridedSlice On_untied.S1024x31 ![0, 0] V On_untied.Gen.facts.slices_S1024x32_S1024x31_0_0⟩]
              On_untied.Gen.facts.concatenates_S1024x1_S1024x31_S1024x32_d1))))
        (cmpi .sgt (iotaInDim On_untied.S1024x32x32 32 2) (iotaInDim On_untied.S1024x32x32 32 1)))
      (constantI S_ 1 1#1) On_untied.Gen.facts.reducesTo_S1024x32x32_S1024x32_d2 On_untied.Gen.facts.h_S_ (ix2 r k) = 1#1)
    (i : Fin 32) (hi : i.val ≤ k.val) :
    (V (ix2 r i) : EReal) < if h : i.val = 0 then ⊤ else V (ix2 r ⟨i.val - 1, by omega⟩) := by
  have h' := Host.reduce_andi_eq_one _ _ _ _ _ h (ix3 r k i) (by
    funext b
    match b with
    | ⟨0, _⟩ => rfl
    | ⟨1, _⟩ => rfl)
  revert h'
  pointwise
  intro h'
  have hc : IntOp.cmpi .sgt (BitVec.ofNat 32 i.val) (BitVec.ofNat 32 k.val) = 0#1 := by
    have hi' : (BitVec.ofNat 32 i.val).toInt = i.val := word_toInt ⟨i.val, by omega⟩
    have hk' : (BitVec.ofNat 32 k.val).toInt = k.val := word_toInt ⟨k.val, by omega⟩
    show BitVec.ofBool (decide ((BitVec.ofNat 32 k.val).toInt < (BitVec.ofNat 32 i.val).toInt)) = 0#1
    rw [decide_eq_false (by omega)]
    rfl
  rw [hc] at h'
  have ht : (Ideal.ofBits .f32 0x7F800000#32 : EReal) = ⊤ := by simp [Ideal.ofBits, Ideal.ieee]
  rw [ht] at h'
  have hd := of_bit _ h'
  simp only [Nat.lt_one_iff] at hd
  exact hd

/-- Where the mask is 1, the values listed so far decrease strictly below `+inf`. -/
theorem mask_at (X : S1024x32768.Idx → EReal) (r : Fin 1024) (k : Fin 32) (h : On_untied.fn (F := Ideal) X (ix2 r k) = 1#1)
    (i : Fin 32) (hi : i.val ≤ k.val) :
    X (ix2 r (col X r ⟨i.val, by omega⟩)) < if h : i.val = 0 then ⊤ else X (ix2 r (col X r ⟨i.val - 1, by omega⟩)) := by
  have hX : ∀ i : Fin 32, (Host.negf (F := Ideal) (extractStridedSlice S1024x32 ![0, 0]
      (Host.sort S1024x32768 1 (On_untied.comparator_f32_d1 (F := Ideal)) (Host.negf (F := Ideal) (φ := .f32) X)) slices_S1024x32768_S1024x32_0_0) (ix2 r i) : EReal)
      = X (ix2 r (col X r ⟨i.val, by omega⟩)) := by
    intro i
    have e1 := slice_at (Host.sort S1024x32768 1 (On_untied.comparator_f32_d1 (F := Ideal)) (Host.negf (F := Ideal) (φ := .f32) X)) slices_S1024x32768_S1024x32_0_0 r i
    have e2 := sort_at X r ⟨i.val, by omega⟩
    have e3 := e1.trans e2
    refine (congrArg (fun a : EReal => -a) e3).trans (neg_neg _)
  unfold On_untied.fn On_untied.fn_sort at h
  dsimp only at h
  have := mask_read _ r k h i hi
  by_cases h0 : i.val = 0
  · rw [dif_pos h0] at this ⊢
    exact (hX i).symm.trans_lt this
  · rw [dif_neg h0] at this ⊢
    exact ((hX i).symm.trans_lt this).trans_eq (hX ⟨i.val - 1, by omega⟩)

/-- There the reference's entry is the level of that rank. -/
theorem result_lev (X : S1024x32768.Idx → EReal) (r : Fin 1024) (k : Fin 32) (h : On_untied.fn (F := Ideal) X (ix2 r k) = 1#1) :
    result X (ix2 r k) = lev (Set.range fun j : Fin 32768 => X (ix2 r j)) (k.val + 1) := by
  rw [result_at, ← col_range]
  exact Levels.sorted_lev (fun i => X (ix2 r (col X r i))) (fun i j => col_anti X r i j) k.val (by omega)
    fun i hi hik => .inr (mask_at X r k h ⟨i, by omega⟩ hik)

end Cert.Merge.Reference
-- ==== Proof.Distinct.lean ====
/-
# 01_k — `Distinct`: the 32 largest different values of a row, computed by two sorts

The first sort lists the row's values from the greatest down; a value equal to the one before it, or to `+inf`, is set to
`-inf`; the second sort moves these behind the others. Entry `k` is level `k + 1` of the row (`distinct_lev`).
-/
module

public import proofs.«01_k».proof.Proof.Reference
public import proofs.«01_k».proof.Proof.Gen.DistinctIdeal
public import proofs.«01_k».proof.Proof.Gen.DistinctIdeal.Run

@[expose] public section

noncomputable section

namespace Cert.Merge.Distinct

open Cert.DistinctIdeal Cert.DistinctIdeal.Gen
open Idealize.ShloMosaic
open Cert.Merge.Levels (lev firsts firsts_lev)
open Cert.Merge.Reference (before col col_anti col_range)

/-- The program's comparison of two values. -/
theorem cmp_at (a b : EReal) : comparator_f32_d1 (F := Ideal) a b = BitVec.ofBool (decide (a < b)) := by
  show Ideal.cmp .olt _ _ = _
  exact congrArg₂ (Ideal.cmp .olt) (Reference.value_key a) (Reference.value_key b)

/-- The rows sorted from the greatest value down. -/
def down (X : FVec Ideal S1024x32768 .f32) : FVec Ideal S1024x32768 .f32 :=
  Host.negf (F := Ideal) (φ := .f32) (Host.sort S1024x32768 1 (comparator_f32_d1 (F := Ideal)) (Host.negf (F := Ideal) (φ := .f32) X))

theorem down_at (X : FVec Ideal S1024x32768 .f32) (r : Fin 1024) (k : Fin 32768) : (down X (ix2 r k) : EReal) = X (ix2 r (col X r k)) := by
  have e : (fun a b : Fin 32768 => comparator_f32_d1 (F := Ideal)
      (Host.negf (F := Ideal) (φ := .f32) X ((ix2 r k : S1024x32768.Idx).along 1 a))
      (Host.negf (F := Ideal) (φ := .f32) X ((ix2 r k : S1024x32768.Idx).along 1 b)) == 1#1)
      = before X r := by
    funext a b
    rw [cmp_at, Reference.ofBool_beq]
    rw [Reference.along_at r k a, Reference.along_at r k b]
    rfl
  unfold down
  refine Eq.trans (congrArg (fun a : EReal => -a) ?_) (neg_neg (X (ix2 r (col X r k))))
  unfold Host.sort
  rw [dif_pos (show (1 : ℕ) < S1024x32768.rank by decide)]
  show -X ((ix2 r k : S1024x32768.Idx).along 1 (sortedFrom (fun a b : Fin 32768 => _) k)) = _
  exact (congrArg (fun i => -X i) (Reference.along_at r k _)).trans (congrArg (fun R => -X (ix2 r (sortedFrom R k))) e)

/-- Sorted rows, each value which is not below the one before it, or not below `+inf`, set to `-inf`. -/
def first (V : FVec Ideal S1024x32768 .f32) : FVec Ideal S1024x32768 .f32 :=
  select (cmpf .olt V (concatenate S1024x32768 1 [⟨S1024x1, broadcastInDim S1024x1 ![] bcast_S_S1024x1 (constant (F := Ideal) S_ .f32 0x7F800000#32)⟩,
      ⟨S1024x32767, extractStridedSlice S1024x32767 ![0, 0] V slices_S1024x32768_S1024x32767_0_0⟩] concatenates_S1024x1_S1024x32767_S1024x32768_d1))
    V (broadcastInDim S1024x32768 ![] bcast_S_S1024x32768 (constant (F := Ideal) S_ .f32 0xFF800000#32))

theorem first_at (V : FVec Ideal S1024x32768 .f32) (r : Fin 1024) (k : Fin 32768) :
    (first V (ix2 r k) : EReal) = firsts (fun j : Fin 32768 => (V (ix2 r j) : EReal)) k := by
  have ht : (Ideal.ofBits .f32 0x7F800000#32 : EReal) = ⊤ := by simp [Ideal.ofBits, Ideal.ieee]
  have hb : (Ideal.ofBits .f32 0xFF800000#32 : EReal) = ⊥ := by simp [Ideal.ofBits, Ideal.ieee]
  unfold first firsts
  pointwise
  simp only [Nat.lt_one_iff, ht, hb]

/-- The program's result from the whole array. -/
def result (X : FVec Ideal S1024x32768 .bf16) : FVec Ideal S1024x32 .f32 :=
  Host.negf (F := Ideal) (φ := .f32) (extractStridedSlice S1024x32 ![0, 0] (Host.sort S1024x32768 1 (comparator_f32_d1 (F := Ideal))
    (Host.negf (F := Ideal) (φ := .f32) (first (down (extf (F := Ideal) .f32 X bitsLt_bf16_f32))))) slices_S1024x32768_S1024x32_0_0)

/-- The column of the second sort which entry `k` shows. -/
def wide (k : Fin 32) : Fin 32768 := ⟨k.val, by omega⟩

/-- The first columns, negated. -/
theorem head_at (Y : FVec Ideal S1024x32768 .f32) (r : Fin 1024) (k : Fin 32) :
    (Host.negf (F := Ideal) (φ := .f32) (extractStridedSlice S1024x32 ![0, 0] Y slices_S1024x32768_S1024x32_0_0) (ix2 r k) : EReal)
      = Host.negf (F := Ideal) (φ := .f32) Y (ix2 r (wide k)) :=
  congrArg (fun a : EReal => -a) (Reference.slice_at Y slices_S1024x32768_S1024x32_0_0 r k)

/-- Widening the values changes nothing here. -/
theorem result_eq (X : S1024x32768.Idx → EReal) : result X = Host.negf (F := Ideal) (φ := .f32) (extractStridedSlice S1024x32 ![0, 0]
    (Host.sort S1024x32768 1 (comparator_f32_d1 (F := Ideal)) (Host.negf (F := Ideal) (φ := .f32) (first (down X)))) slices_S1024x32768_S1024x32_0_0) := by
  unfold result
  rw [show extf (F := Ideal) (φ := .bf16) .f32 X bitsLt_bf16_f32 = X from rfl]

/-- The result is the first columns of the second sort. -/
theorem result_at (X : S1024x32768.Idx → EReal) (r : Fin 1024) (k : Fin 32) :
    (result X (ix2 r k) : EReal) = down (first (down X)) (ix2 r (wide k)) := by
  rw [result_eq]
  exact head_at _ r k

/-- Entry `k` of a row is level `k + 1` of the row. -/
theorem distinct_lev (X : S1024x32768.Idx → EReal) (r : Fin 1024) (k : Fin 32) :
    (result X (ix2 r k) : EReal) = lev (Set.range fun j : Fin 32768 => X (ix2 r j)) (k.val + 1) := by
  have hs : (fun j : Fin 32768 => (down X (ix2 r j) : EReal)) = fun j => X (ix2 r (col X r j)) := funext fun j => down_at X r j
  have hf : ∀ j, (first (down X) (ix2 r j) : EReal) = firsts (fun j : Fin 32768 => X (ix2 r (col X r j))) j :=
    fun j => (first_at (down X) r j).trans (congrArg (fun s => firsts s j) hs)
  rw [result_at, down_at, hf, ← col_range]
  refine firsts_lev (fun i => X (ix2 r (col X r i))) (fun i j => col_anti X r i j) (col (first (down X)) r) (sortedFrom_injective _) (sortedFrom_surjective _)
    (fun i j hij => ?_) (wide k)
  rw [← hf, ← hf]
  exact col_anti (first (down X)) r i j hij

end Cert.Merge.Distinct
-- ==== Proof.lean ====
/-
# 01_k — the claims, from the modules under Proof/.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_untied
public import proofs.«01_k».proof.Proof.Gen.DistinctIdeal
public import proofs.«01_k».proof.Proof.Gen.DistinctIdeal.Run
public import proofs.«01_k».proof.Proof.Run
public import proofs.«01_k».proof.Proof.Array
public import proofs.«01_k».proof.Proof.Reference
public import proofs.«01_k».proof.Proof.Distinct
public import Idealize.ShloMosaic.Adequacy
public import Idealize.ShloMosaic.Init

@[expose] public section

noncomputable section

namespace Cert.Proof

open Idealize.ShloMosaic Idealize.SL.Sem Cert.Kernel

/-- The kernel at any float values: it terminates, its argument unchanged and every semaphore counter zero. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (Cert.Merge.finalA_x m ρ c), h.2⟩) (Cert.Merge.run_main (F := F) m ρ)

/-- The kernel over the ideal values. -/
theorem frame_kernelIdeal : Cert.quiescent_KernelIdeal := fun m ρ _ => frame_run (F := Ideal) m ρ

/-- The two printings of the kernel have the same bodies; -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- so the same tables of bodies. -/
theorem defs_eq {F : FTy → Type} [FloatOps F] : Cert.Kernel.defs (F := F) = Cert.KernelIdeal.defs (F := F) :=
  congrArg (Pipeline.defs Cert.KernelIdeal.pcfgs) defs₀_eq

/-- The kernel over the machine's values, by the same run. -/
theorem frame_kernel : Cert.quiescent_Kernel := fun m ρ _ => by
  have h := frame_run (F := Bits) m ρ
  rw [← defs_eq] at h
  exact h

/-- The reference: a straight-line host program that declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Where the mask is 1, what every device's result array ends holding is the reference's entry: both are the level of the
    entry's rank in the whole row. -/
theorem final_eq (m : (ℓ : Loc Cert.KernelIdeal.nD Cert.KernelIdeal.τ Cert.KernelIdeal.sig) → Buf (Elt Ideal) ℓ) (ρ : Dev Cert.KernelIdeal.nD → PrngReg)
    (X : (⟨2, ![1024, 32768]⟩ : Shape).Idx → EReal)
    (hX : ∀ c : Dev Cert.KernelIdeal.nD, m ((c.tc : Thread Cert.KernelIdeal.nD Cert.KernelIdeal.τ).loc Cert.KernelIdeal.main_arg0)
      = Layout.blockN ⟨2, ![1024, 8192]⟩ ⟨2, ![1024, 32768]⟩ (Layout.meshBlock [2, 4, 4] ![[], [1]] c) X)
    (c : Dev Cert.KernelIdeal.nD) (i : (⟨2, ![1024, 32]⟩ : Shape).Idx) (hi : Cert.On_untied.fn (F := Ideal) X i = 1#1) :
    Cert.Merge.finalA m ρ c (1 : Fin 2) i = Cert.Merge.Reference.result X i := by
  have e : i = ix2 (i 0) (i 1) := by
    funext a
    match a with
    | ⟨0, _⟩ => rfl
    | ⟨1, _⟩ => rfl
  rw [e] at hi ⊢
  refine Eq.trans ?_ (Cert.Merge.Reference.result_lev X (i 0) (i 1) hi).symm
  refine (congrFun (Cert.Merge.finalA_o m ρ c) _).trans ?_
  refine (Cert.Merge.outAt_eq m c (i 0) (i 1)).trans ?_
  rw [Cert.Merge.whole_eq m X hX c (i 0)]

/-- Over the ideal values every device of the kernel ends with the reference's result, wherever the mask is 1. -/
theorem algebraic : Cert.algebraic_KernelIdeal_ReferenceIdeal_on_untied := fun m g m' g' _ hX =>
  ⟨Cert.Merge.Reference.result (m' (((0 : Dev Cert.ReferenceIdeal.nD).tc : Thread Cert.ReferenceIdeal.nD Cert.ReferenceIdeal.τ).loc Cert.ReferenceIdeal.main_arg0)),
    (θ_run Cert.KernelIdeal.defs _ _).mono (fun r h c =>
      ⟨fun i hi => (congrFun (h.1 c (1 : Fin 2)) i).trans (final_eq m g _ hX c i hi),
        (h.1 c (0 : Fin 2)).trans (Cert.Merge.finalA_x m g c)⟩) (Cert.Merge.run_main (F := Ideal) m g),
    (θ_run Cert.ReferenceIdeal.defs _ _).mono (fun r h => ⟨fun i _ => congrFun (h 0).1 i, (h 0).2⟩)
      (Cert.ReferenceIdeal.Value.run (F := Ideal) m' g')⟩

/-- The second reference, likewise. -/
theorem frame_distinctIdeal : Cert.quiescent_DistinctIdeal := fun m ρ _ =>
  (θ_run Cert.DistinctIdeal.defs _ _).mono (fun r h => ⟨fun c => (h c).2, Idealize.ShloMosaic.sem_eq_zero_of_no_sems (by decide) r.2⟩)
    (Cert.DistinctIdeal.Value.run (F := Ideal) m ρ)

/-- What every device's result array ends holding is the second reference's result, at every entry of every input. -/
theorem final_distinct (m : (ℓ : Loc Cert.KernelIdeal.nD Cert.KernelIdeal.τ Cert.KernelIdeal.sig) → Buf (Elt Ideal) ℓ) (ρ : Dev Cert.KernelIdeal.nD → PrngReg)
    (X : (⟨2, ![1024, 32768]⟩ : Shape).Idx → EReal)
    (hX : ∀ c : Dev Cert.KernelIdeal.nD, m ((c.tc : Thread Cert.KernelIdeal.nD Cert.KernelIdeal.τ).loc Cert.KernelIdeal.main_arg0)
      = Layout.blockN ⟨2, ![1024, 8192]⟩ ⟨2, ![1024, 32768]⟩ (Layout.meshBlock [2, 4, 4] ![[], [1]] c) X)
    (c : Dev Cert.KernelIdeal.nD) (i : (⟨2, ![1024, 32]⟩ : Shape).Idx) :
    Cert.Merge.finalA m ρ c (1 : Fin 2) i = Cert.Merge.Distinct.result X i := by
  have e : i = ix2 (i 0) (i 1) := by
    funext a
    match a with
    | ⟨0, _⟩ => rfl
    | ⟨1, _⟩ => rfl
  rw [e]
  refine Eq.trans ?_ (Cert.Merge.Distinct.distinct_lev X (i 0) (i 1)).symm
  refine (congrFun (Cert.Merge.finalA_o m ρ c) _).trans ?_
  refine (Cert.Merge.outAt_eq m c (i 0) (i 1)).trans ?_
  rw [Cert.Merge.whole_eq m X hX c (i 0)]

/-- Over the ideal values every device of the kernel ends with the second reference's result. -/
theorem algebraic_distinct : Cert.algebraic_KernelIdeal_DistinctIdeal := fun m g m' g' _ hX =>
  ⟨Cert.Merge.Distinct.result (m' (((0 : Dev Cert.DistinctIdeal.nD).tc : Thread Cert.DistinctIdeal.nD Cert.DistinctIdeal.τ).loc Cert.DistinctIdeal.main_arg0)),
    (θ_run Cert.KernelIdeal.defs _ _).mono (fun r h c =>
      ⟨(h.1 c (1 : Fin 2)).trans (funext fun i => final_distinct m g _ hX c i),
        (h.1 c (0 : Fin 2)).trans (Cert.Merge.finalA_x m g c)⟩) (Cert.Merge.run_main (F := Ideal) m g),
    (θ_run Cert.DistinctIdeal.defs _ _).mono (fun r h => ⟨(h 0).1, (h 0).2⟩)
      (Cert.DistinctIdeal.Value.run (F := Ideal) m' g')⟩

/-- Every claim. -/
theorem claim : Cert.Claim := ⟨Cert.Kernel.Gen.facts, Cert.KernelIdeal.Gen.facts, Cert.ReferenceIdeal.Gen.facts, Cert.DistinctIdeal.Gen.facts,
  Cert.On_untied.Gen.facts, frame_kernel, frame_kernelIdeal, frame_referenceIdeal, frame_distinctIdeal, trivial, algebraic, algebraic_distinct⟩

end Cert.Proof

end
